-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  IdealRules.named_const.Statement Cert.KernelIdeal.κ "inv_sqrt_512" .f32 0x3D3504F3#32 ((524288 / 11863283 : ℝ) : EReal)
  ∧ IdealRules.named_const.Statement Cert.KernelIdeal.κ "inv_sqrt_128" .f32 0x3DB504F3#32 ((1048576 / 11863283 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S4096x512 : Shape := ⟨2, ![4096, 512]⟩
abbrev S_ : Shape := ⟨0, ![]⟩
abbrev S512x512 : Shape := ⟨2, ![512, 512]⟩
abbrev S512 : Shape := ⟨1, ![512]⟩
abbrev S512x128 : Shape := ⟨2, ![512, 128]⟩
abbrev S128 : Shape := ⟨1, ![128]⟩
abbrev S512x8 : Shape := ⟨2, ![512, 8]⟩
abbrev S8 : Shape := ⟨1, ![8]⟩
abbrev S1024x512 : Shape := ⟨2, ![1024, 512]⟩
abbrev S512x1 : Shape := ⟨2, ![512, 1]⟩
abbrev S1 : Shape := ⟨1, ![1]⟩
abbrev S8x512 : Shape := ⟨2, ![8, 512]⟩
abbrev S1024 : Shape := ⟨1, ![1024]⟩
abbrev S1024x1024 : Shape := ⟨2, ![1024, 1024]⟩

class Facts : Prop where
  bcast_S_S4x4096x512 : S_.BroadcastsInDim S4x4096x512 (![] : Fin 0 → Fin S4x4096x512.rank)
  bcast_S_S4096x512 : S_.BroadcastsInDim S4096x512 (![] : Fin 0 → Fin S4096x512.rank)
  bcast_S_S512x512 : S_.BroadcastsInDim S512x512 (![] : Fin 0 → Fin S512x512.rank)
  bcast_S_S512 : S_.BroadcastsInDim S512 (![] : Fin 0 → Fin S512.rank)
  bcast_S_S512x8 : S_.BroadcastsInDim S512x8 (![] : Fin 0 → Fin S512x8.rank)
  bcast_S_S8 : S_.BroadcastsInDim S8 (![] : Fin 0 → Fin S8.rank)

variable [Facts]

def fn {F : FTy → Type} [FloatOps F] (main_arg0 : FVec F S4x4096x512 .f32) (main_arg1 : FVec F S4096x512 .f32) (main_arg2 : FVec F S_ .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x128 .f32) (main_arg12 : FVec F S128 .f32) (main_arg13 : FVec F S512x8 .f32) (main_arg14 : FVec F S8 .f32) (main_arg15 : FVec F S1024x512 .f32) (main_arg16 : FVec F S512 .f32) (main_arg17 : FVec F S512x128 .f32) (main_arg18 : FVec F S128 .f32) (main_arg19 : FVec F S512x1 .f32) (main_arg20 : FVec F S1 .f32) (main_arg21 : FVec F S8x512 .f32) (main_arg22 : FVec F S512 .f32) (main_arg23 : FVec F S1024 .f32) (main_arg24 : FVec F S1024 .f32) (main_arg25 : FVec F S1024x1024 .f32) (main_arg26 : FVec F S1024 .f32) (main_arg27 : FVec F S1024x512 .f32) (main_arg28 : FVec F S512 .f32) : IVec S4x4096x512 1 × IVec S4096x512 1 × IVec S512x512 1 × IVec S512 1 × IVec S512x8 1 × IVec S8 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S512x512 .f32 := Host.absf main_arg9
  let main_cst_1 : FVec F S_ .f32 := constant S_ .f32 0x7F800000#32
  let main_v7 : FVec F S512x512 .f32 := broadcastInDim S512x512 ![] bcast_S_S512x512 main_cst_1
  let main_v8 : IVec S512x512 1 := cmpf .olt main_v6 main_v7
  let main_v9 : FVec F S512 .f32 := Host.absf main_arg10
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S512x8 .f32 := Host.absf main_arg13
  let main_cst_3 : FVec F S_ .f32 := constant S_ .f32 0x7F800000#32
  let main_v13 : FVec F S512x8 .f32 := broadcastInDim S512x8 ![] bcast_S_S512x8 main_cst_3
  let main_v14 : IVec S512x8 1 := cmpf .olt main_v12 main_v13
  let main_v15 : FVec F S8 .f32 := Host.absf main_arg14
  let main_cst_4 : FVec F S_ .f32 := constant S_ .f32 0x7F800000#32
  let main_v16 : FVec F S8 .f32 := broadcastInDim S8 ![] bcast_S_S8 main_cst_4
  let main_v17 : IVec S8 1 := cmpf .olt main_v15 main_v16
  (main_v2, main_v5, main_v8, main_v11, main_v14, main_v17)
-- ==== Kernel.lean ====
abbrev S4x4096x512 : Shape := ⟨3, ![4, 4096, 512]⟩
abbrev S4096x512 : Shape := ⟨2, ![4096, 512]⟩
abbrev S_ : Shape := ⟨0, ![]⟩
abbrev S512x512 : Shape := ⟨2, ![512, 512]⟩
abbrev S512 : Shape := ⟨1, ![512]⟩
abbrev S512x128 : Shape := ⟨2, ![512, 128]⟩
abbrev S128 : Shape := ⟨1, ![128]⟩
abbrev S512x8 : Shape := ⟨2, ![512, 8]⟩
abbrev S8 : Shape := ⟨1, ![8]⟩
abbrev S1024x512 : Shape := ⟨2, ![1024, 512]⟩
abbrev S512x1 : Shape := ⟨2, ![512, 1]⟩
abbrev S1 : Shape := ⟨1, ![1]⟩
abbrev S8x512 : Shape := ⟨2, ![8, 512]⟩
abbrev S1024 : Shape := ⟨1, ![1024]⟩
abbrev S1024x1024 : Shape := ⟨2, ![1024, 1024]⟩
abbrev S1x1 : Shape := ⟨2, ![1, 1]⟩
abbrev S1x8 : Shape := ⟨2, ![1, 8]⟩
abbrev S1x128 : Shape := ⟨2, ![1, 128]⟩
abbrev S128x512 : Shape := ⟨2, ![128, 512]⟩
abbrev S512x1920 : Shape := ⟨2, ![512, 1920]⟩
abbrev S1x512 : Shape := ⟨2, ![1, 512]⟩
abbrev S1x1920 : Shape := ⟨2, ![1, 1920]⟩
abbrev S1x1024 : Shape := ⟨2, ![1, 1024]⟩
abbrev S1x1024x512 : Shape := ⟨3, ![1, 1024, 512]⟩
abbrev S1x2176 : Shape := ⟨2, ![1, 2176]⟩
abbrev S256x128 : Shape := ⟨2, ![256, 128]⟩
abbrev S256x256 : Shape := ⟨2, ![256, 256]⟩
abbrev S1x256x512 : Shape := ⟨3, ![1, 256, 512]⟩
abbrev S256x512 : Shape := ⟨2, ![256, 512]⟩
abbrev S256x1920 : Shape := ⟨2, ![256, 1920]⟩
abbrev S256x1 : Shape := ⟨2, ![256, 1]⟩
abbrev S256x2176 : Shape := ⟨2, ![256, 2176]⟩
abbrev S256x1024 : Shape := ⟨2, ![256, 1024]⟩
abbrev S256 : Shape := ⟨1, ![256]⟩

abbrev nBuf : Space → Nat
  | .hbm => 64
  | .vmem => 33
  | .smem => 0
  | _ => 0

abbrev bufTy : (tb : Table) → Fin (tcTables nBuf tb) → BufTy
  | .hbm, ⟨0, _⟩ => ⟨S4x4096x512, .f32⟩
  | .hbm, ⟨1, _⟩ => ⟨S4096x512, .f32⟩
  | .hbm, ⟨2, _⟩ => ⟨S_, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x128, .f32⟩
  | .hbm, ⟨12, _⟩ => ⟨S128, .f32⟩
  | .hbm, ⟨13, _⟩ => ⟨S512x8, .f32⟩
  | .hbm, ⟨14, _⟩ => ⟨S8, .f32⟩
  | .hbm, ⟨15, _⟩ => ⟨S1024x512, .f32⟩
  | .hbm, ⟨16, _⟩ => ⟨S512, .f32⟩
  | .hbm, ⟨17, _⟩ => ⟨S512x128, .f32⟩
  | .hbm, ⟨18, _⟩ => ⟨S128, .f32⟩
  | .hbm, ⟨19, _⟩ => ⟨S512x1, .f32⟩
  | .hbm, ⟨20, _⟩ => ⟨S1, .f32⟩
  | .hbm, ⟨21, _⟩ => ⟨S8x512, .f32⟩
  | .hbm, ⟨22, _⟩ => ⟨S512, .f32⟩
  | .hbm, ⟨23, _⟩ => ⟨S1024, .f32⟩
  | .hbm, ⟨24, _⟩ => ⟨S1024, .f32⟩
  | .hbm, ⟨25, _⟩ => ⟨S1024x1024, .f32⟩
  | .hbm, ⟨26, _⟩ => ⟨S1024, .f32⟩
  | .hbm, ⟨27, _⟩ => ⟨S1024x512, .f32⟩
  | .hbm, ⟨28, _⟩ => ⟨S512, .f32⟩
  | .hbm, ⟨29, _⟩ => ⟨S4096x512, .f32⟩
  | .hbm, ⟨30, _⟩ => ⟨S4096x512, .f32⟩
  | .hbm, ⟨31, _⟩ => ⟨S1x1, .f32⟩
  | .hbm, ⟨32, _⟩ => ⟨S_, .i32⟩
  | .hbm, ⟨33, _⟩ => ⟨S_, .f32⟩
  | .hbm, ⟨34, _⟩ => ⟨S512x128, .f32⟩
  | .hbm, ⟨35, _⟩ => ⟨S1x8, .f32⟩
  | .hbm, ⟨36, _⟩ => ⟨S_, .i32⟩
  | .hbm, ⟨37, _⟩ => ⟨S_, .f32⟩
  | .hbm, ⟨38, _⟩ => ⟨S1x128, .f32⟩
  | .hbm, ⟨39, _⟩ => ⟨S_, .i32⟩
  | .hbm, ⟨40, _⟩ => ⟨S_, .f32⟩
  | .hbm, ⟨41, _⟩ => ⟨S128x512, .f32⟩
  | .hbm, ⟨42, _⟩ => ⟨S_, .i32⟩
  | .hbm, ⟨43, _⟩ => ⟨S_, .f32⟩
  | .hbm, ⟨44, _⟩ => ⟨S512x128, .f32⟩
  | .hbm, ⟨45, _⟩ => ⟨S1x1, .f32⟩
  | .hbm, ⟨46, _⟩ => ⟨S_, .i32⟩
  | .hbm, ⟨47, _⟩ => ⟨S_, .f32⟩
  | .hbm, ⟨48, _⟩ => ⟨S1x128, .f32⟩
  | .hbm, ⟨49, _⟩ => ⟨S512x1920, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S1x128, .f32⟩
  | .hbm, ⟨54, _⟩ => ⟨S1x1920, .f32⟩
  | .hbm, ⟨55, _⟩ => ⟨S1x512, .f32⟩
  | .hbm, ⟨56, _⟩ => ⟨S1x512, .f32⟩
  | .hbm, ⟨57, _⟩ => ⟨S1x128, .f32⟩
  | .hbm, ⟨58, _⟩ => ⟨S1x512, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x512, .f32⟩
  | .hbm, ⟨63, _⟩ => ⟨S4x4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x1024x512, .f32⟩
  | .local _ .vmem, ⟨7, _⟩ => ⟨S1x1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1x1, .f32⟩
  | .local _ .vmem, ⟨13, _⟩ => ⟨S512x1920, .f32⟩
  | .local _ .vmem, ⟨14, _⟩ => ⟨S1x1920, .f32⟩
  | .local _ .vmem, ⟨15, _⟩ => ⟨S512x512, .f32⟩
  | .local _ .vmem, ⟨16, _⟩ => ⟨S1x512, .f32⟩
  | .local _ .vmem, ⟨17, _⟩ => ⟨S1024x512, .f32⟩
  | .local _ .vmem, ⟨18, _⟩ => ⟨S1x512, .f32⟩
  | .local _ .vmem, ⟨19, _⟩ => ⟨S512x128, .f32⟩
  | .local _ .vmem, ⟨20, _⟩ => ⟨S1x128, .f32⟩
  | .local _ .vmem, ⟨21, _⟩ => ⟨S128x512, .f32⟩
  | .local _ .vmem, ⟨22, _⟩ => ⟨S1x512, .f32⟩
  | .local _ .vmem, ⟨23, _⟩ => ⟨S1x1024, .f32⟩
  | .local _ .vmem, ⟨24, _⟩ => ⟨S1x1024, .f32⟩
  | .local _ .vmem, ⟨25, _⟩ => ⟨S1024x1024, .f32⟩
  | .local _ .vmem, ⟨26, _⟩ => ⟨S1x1024, .f32⟩
  | .local _ .vmem, ⟨27, _⟩ => ⟨S1024x512, .f32⟩
  | .local _ .vmem, ⟨28, _⟩ => ⟨S1x512, .f32⟩
  | .local _ .vmem, ⟨29, _⟩ => ⟨S1x1024x512, .f32⟩
  | .local _ .vmem, ⟨30, _⟩ => ⟨S1x1024x512, .f32⟩
  | .local _ .vmem, ⟨31, _⟩ => ⟨S1x2176, .f32⟩
  | .local _ .vmem, ⟨32, _⟩ => ⟨S256x128, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0_0 : Ref sig .tc := ⟨.hbm, 29, rfl⟩
abbrev main_v0_1 : Ref sig .tc := ⟨.hbm, 30, rfl⟩
abbrev main_v1 : Ref sig .tc := ⟨.hbm, 31, rfl⟩
abbrev main_c : Ref sig .tc := ⟨.hbm, 32, rfl⟩
abbrev main_call0_v0 : Ref sig .tc := ⟨.hbm, 33, rfl⟩
abbrev main_v2 : Ref sig .tc := ⟨.hbm, 34, rfl⟩
abbrev main_v3 : Ref sig .tc := ⟨.hbm, 35, rfl⟩
abbrev main_c_0 : Ref sig .tc := ⟨.hbm, 36, rfl⟩
abbrev main_call1_v0 : Ref sig .tc := ⟨.hbm, 37, rfl⟩
abbrev main_v4 : Ref sig .tc := ⟨.hbm, 38, rfl⟩
abbrev main_c_1 : Ref sig .tc := ⟨.hbm, 39, rfl⟩
abbrev main_call2_v0 : Ref sig .tc := ⟨.hbm, 40, rfl⟩
abbrev main_v5 : Ref sig .tc := ⟨.hbm, 41, rfl⟩
abbrev main_c_2 : Ref sig .tc := ⟨.hbm, 42, rfl⟩
abbrev main_call3_v0 : Ref sig .tc := ⟨.hbm, 43, rfl⟩
abbrev main_v6 : Ref sig .tc := ⟨.hbm, 44, rfl⟩
abbrev main_v7 : Ref sig .tc := ⟨.hbm, 45, rfl⟩
abbrev main_c_3 : Ref sig .tc := ⟨.hbm, 46, rfl⟩
abbrev main_call4_v0 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg16_0 : Ref sig .tc := ⟨.vmem, 25, rfl⟩
abbrev cc1_stg17_0 : Ref sig .tc := ⟨.vmem, 26, rfl⟩
abbrev cc1_stg18_0 : Ref sig .tc := ⟨.vmem, 27, rfl⟩
abbrev cc1_stg19_0 : Ref sig .tc := ⟨.vmem, 28, rfl⟩
abbrev cc1_stg20_0 : Ref sig .tc := ⟨.vmem, 29, rfl⟩
abbrev cc1_stg20_1 : Ref sig .tc := ⟨.vmem, 30, rfl⟩
abbrev cc1_scratch0 : Ref sig .tc := ⟨.vmem, 31, rfl⟩
abbrev cc1_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem15_0 : DmaSem sig := 24
abbrev cc1_sem16_0 : DmaSem sig := 25
abbrev cc1_sem17_0 : DmaSem sig := 26
abbrev cc1_sem18_0 : DmaSem sig := 27
abbrev cc1_sem19_0 : DmaSem sig := 28
abbrev cc1_sem20_0 : DmaSem sig := 29
abbrev cc1_sem20_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x1920 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1920 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1024x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S512x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S128x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S1x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 1 → Memref sig .tc .vmem S1024x1024 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false, false]

abbrev stage1_17 : Fin 1 → Memref sig .tc .vmem S1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false, false]

abbrev stage1_18 : Fin 1 → Memref sig .tc .vmem S1024x512 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false, false]

abbrev stage1_19 : Fin 1 → Memref sig .tc .vmem S1x512 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false, false]

abbrev stage1_20 : Fin 2 → Memref sig .tc .vmem S1x1024x512 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true, true]
-- ==== KernelIdeal.lean ====
variable {F : FTy → Type} [FloatOps F] [Named F]
def κ : String → Option EReal := fun
  | "inv_sqrt_128" => some ((1048576 / 11863283 : ℝ) : EReal)
  | "inv_sqrt_512" => some ((524288 / 11863283 : ℝ) : EReal)
  | _ => none
-- ==== ReferenceIdeal.lean ====
abbrev S4x4096x512 : Shape := ⟨3, ![4, 4096, 512]⟩
abbrev S4096x512 : Shape := ⟨2, ![4096, 512]⟩
abbrev S_ : Shape := ⟨0, ![]⟩
abbrev S512x512 : Shape := ⟨2, ![512, 512]⟩
abbrev S512 : Shape := ⟨1, ![512]⟩
abbrev S512x128 : Shape := ⟨2, ![512, 128]⟩
abbrev S128 : Shape := ⟨1, ![128]⟩
abbrev S512x8 : Shape := ⟨2, ![512, 8]⟩
abbrev S8 : Shape := ⟨1, ![8]⟩
abbrev S1024x512 : Shape := ⟨2, ![1024, 512]⟩
abbrev S512x1 : Shape := ⟨2, ![512, 1]⟩
abbrev S1 : Shape := ⟨1, ![1]⟩
abbrev S8x512 : Shape := ⟨2, ![8, 512]⟩
abbrev S1024 : Shape := ⟨1, ![1024]⟩
abbrev S1024x1024 : Shape := ⟨2, ![1024, 1024]⟩
abbrev S1x1x512 : Shape := ⟨3, ![1, 1, 512]⟩
abbrev S1x4096x512 : Shape := ⟨3, ![1, 4096, 512]⟩
abbrev S4x4096x128 : Shape := ⟨3, ![4, 4096, 128]⟩
abbrev S1x1x128 : Shape := ⟨3, ![1, 1, 128]⟩
abbrev S4x4096x8 : Shape := ⟨3, ![4, 4096, 8]⟩
abbrev S1x1x8 : Shape := ⟨3, ![1, 1, 8]⟩
abbrev S4x4096x1 : Shape := ⟨3, ![4, 4096, 1]⟩
abbrev S1x1x1 : Shape := ⟨3, ![1, 1, 1]⟩
abbrev S4096 : Shape := ⟨1, ![4096]⟩
abbrev S1x4096x1 : Shape := ⟨3, ![1, 4096, 1]⟩
abbrev S4x4096x1024 : Shape := ⟨3, ![4, 4096, 1024]⟩
abbrev S4x4096x128x1 : Shape := ⟨4, ![4, 4096, 128, 1]⟩
abbrev S4x4096x1x8 : Shape := ⟨4, ![4, 4096, 1, 8]⟩
abbrev S4x4096x128x8 : Shape := ⟨4, ![4, 4096, 128, 8]⟩
abbrev S4x4096x1x1 : Shape := ⟨4, ![4, 4096, 1, 1]⟩
abbrev S4x4096 : Shape := ⟨2, ![4, 4096]⟩
abbrev S1x1x1024 : Shape := ⟨3, ![1, 1, 1024]⟩

abbrev nBuf : Space → Nat
  | .hbm => 264
  | .vmem => 0
  | .smem => 0
  | _ => 0

abbrev hbmTy0_0 (i : Nat) : BufTy := match i % 128 with
  | 0 => ⟨S4x4096x512, .f32⟩
  | 1 => ⟨S4096x512, .f32⟩
  | 2 => ⟨S_, .f32⟩
  | 3 => ⟨S512x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x512, .f32⟩
  | 10 => ⟨S512, .f32⟩
  | 11 => ⟨S512x128, .f32⟩
  | 12 => ⟨S128, .f32⟩
  | 13 => ⟨S512x8, .f32⟩
  | 14 => ⟨S8, .f32⟩
  | 15 => ⟨S1024x512, .f32⟩
  | 16 => ⟨S512, .f32⟩
  | 17 => ⟨S512x128, .f32⟩
  | 18 => ⟨S128, .f32⟩
  | 19 => ⟨S512x1, .f32⟩
  | 20 => ⟨S1, .f32⟩
  | 21 => ⟨S8x512, .f32⟩
  | 22 => ⟨S512, .f32⟩
  | 23 => ⟨S1024, .f32⟩
  | 24 => ⟨S1024, .f32⟩
  | 25 => ⟨S1024x1024, .f32⟩
  | 26 => ⟨S1024, .f32⟩
  | 27 => ⟨S1024x512, .f32⟩
  | 28 => ⟨S512, .f32⟩
  | 29 => ⟨S4096x512, .f32⟩
  | 30 => ⟨S4096x512, .f32⟩
  | 31 => ⟨S4x4096x512, .f32⟩
  | 32 => ⟨S1x1x512, .f32⟩
  | 33 => ⟨S4x4096x512, .f32⟩
  | 34 => ⟨S4x4096x512, .f32⟩
  | 35 => ⟨S4x4096x512, .f32⟩
  | 36 => ⟨S1x1x512, .f32⟩
  | 37 => ⟨S4x4096x512, .f32⟩
  | 38 => ⟨S4x4096x512, .f32⟩
  | 39 => ⟨S4x4096x512, .f32⟩
  | 40 => ⟨S4x4096x512, .f32⟩
  | 41 => ⟨S_, .f32⟩
  | 42 => ⟨S4x4096x512, .f32⟩
  | 43 => ⟨S4x4096x512, .f32⟩
  | 44 => ⟨S_, .f32⟩
  | 45 => ⟨S4x4096x512, .f32⟩
  | 46 => ⟨S4x4096x512, .f32⟩
  | 47 => ⟨S_, .f32⟩
  | 48 => ⟨S4x4096x512, .f32⟩
  | 49 => ⟨S4x4096x512, .f32⟩
  | 50 => ⟨S4x4096x512, .f32⟩
  | 51 => ⟨S1x4096x512, .f32⟩
  | 52 => ⟨S4x4096x512, .f32⟩
  | 53 => ⟨S4x4096x512, .f32⟩
  | 54 => ⟨S_, .f32⟩
  | 55 => ⟨S_, .f32⟩
  | 56 => ⟨S4x4096x512, .f32⟩
  | 57 => ⟨S1x4096x512, .f32⟩
  | 58 => ⟨S4x4096x512, .f32⟩
  | 59 => ⟨S4x4096x512, .f32⟩
  | 60 => ⟨S_, .f32⟩
  | 61 => ⟨S_, .f32⟩
  | 62 => ⟨S4x4096x512, .f32⟩
  | 63 => ⟨S_, .f32⟩
  | 64 => ⟨S_, .f32⟩
  | 65 => ⟨S4x4096x512, .f32⟩
  | 66 => ⟨S_, .f32⟩
  | 67 => ⟨S4x4096x512, .f32⟩
  | 68 => ⟨S4x4096x512, .f32⟩
  | 69 => ⟨S4x4096x512, .f32⟩
  | 70 => ⟨S4x4096x512, .f32⟩
  | 71 => ⟨S4x4096x512, .f32⟩
  | 72 => ⟨S4x4096x512, .f32⟩
  | 73 => ⟨S1x1x512, .f32⟩
  | 74 => ⟨S4x4096x512, .f32⟩
  | 75 => ⟨S4x4096x512, .f32⟩
  | 76 => ⟨S1x4096x512, .f32⟩
  | 77 => ⟨S4x4096x512, .f32⟩
  | 78 => ⟨S4x4096x512, .f32⟩
  | 79 => ⟨S4x4096x512, .f32⟩
  | 80 => ⟨S4x4096x512, .f32⟩
  | 81 => ⟨S4x4096x512, .f32⟩
  | 82 => ⟨S4x4096x512, .f32⟩
  | 83 => ⟨S4x4096x512, .f32⟩
  | 84 => ⟨S_, .f32⟩
  | 85 => ⟨S4x4096x512, .f32⟩
  | 86 => ⟨S4x4096x512, .f32⟩
  | 87 => ⟨S4x4096x512, .f32⟩
  | 88 => ⟨S1x1x512, .f32⟩
  | 89 => ⟨S4x4096x512, .f32⟩
  | 90 => ⟨S4x4096x512, .f32⟩
  | 91 => ⟨S4x4096x128, .f32⟩
  | 92 => ⟨S1x1x128, .f32⟩
  | 93 => ⟨S4x4096x128, .f32⟩
  | 94 => ⟨S4x4096x128, .f32⟩
  | 95 => ⟨S4x4096x128, .f32⟩
  | 96 => ⟨S_, .f32⟩
  | 97 => ⟨S4x4096x128, .f32⟩
  | 98 => ⟨S4x4096x128, .f32⟩
  | 99 => ⟨S4x4096x8, .f32⟩
  | 100 => ⟨S1x1x8, .f32⟩
  | 101 => ⟨S4x4096x8, .f32⟩
  | 102 => ⟨S4x4096x8, .f32⟩
  | 103 => ⟨S4x4096x1, .f32⟩
  | 104 => ⟨S1x1x1, .f32⟩
  | 105 => ⟨S4x4096x1, .f32⟩
  | 106 => ⟨S4x4096x1, .f32⟩
  | 107 => ⟨S4x4096x1, .f32⟩
  | 108 => ⟨S4x4096x1, .f32⟩
  | 109 => ⟨S_, .f32⟩
  | 110 => ⟨S4x4096x1, .f32⟩
  | 111 => ⟨S4x4096x1, .f32⟩
  | 112 => ⟨S_, .f32⟩
  | 113 => ⟨S4x4096x1, .f32⟩
  | 114 => ⟨S4x4096x1, .f32⟩
  | 115 => ⟨S4096, .f32⟩
  | 116 => ⟨S_, .f32⟩
  | 117 => ⟨S4096, .f32⟩
  | 118 => ⟨S4096, .f32⟩
  | 119 => ⟨S1x4096x1, .f32⟩
  | 120 => ⟨S_, .f32⟩
  | 121 => ⟨S_, .f32⟩
  | 122 => ⟨S4x4096x512, .f32⟩
  | 123 => ⟨S4x4096x512, .f32⟩
  | 124 => ⟨S4x4096x512, .f32⟩
  | 125 => ⟨S4x4096x1024, .f32⟩
  | 126 => ⟨S4x4096x512, .f32⟩
  | 127 => ⟨S1x1x512, .f32⟩
  | _ => ⟨S4x4096x512, .f32⟩

abbrev hbmTy0_1 (i : Nat) : BufTy := match i % 128 with
  | 0 => ⟨S4x4096x512, .f32⟩
  | 1 => ⟨S4x4096x512, .f32⟩
  | 2 => ⟨S_, .f32⟩
  | 3 => ⟨S4x4096x512, .f32⟩
  | 4 => ⟨S4x4096x512, .f32⟩
  | 5 => ⟨S4x4096x512, .f32⟩
  | 6 => ⟨S_, .f32⟩
  | 7 => ⟨S4x4096x512, .f32⟩
  | 8 => ⟨S4x4096x512, .f32⟩
  | 9 => ⟨S4x4096x512, .f32⟩
  | 10 => ⟨S4x4096x512, .f32⟩
  | 11 => ⟨S4x4096x128, .f32⟩
  | 12 => ⟨S1x1x128, .f32⟩
  | 13 => ⟨S4x4096x128, .f32⟩
  | 14 => ⟨S4x4096x128, .f32⟩
  | 15 => ⟨S4x4096x128, .f32⟩
  | 16 => ⟨S_, .f32⟩
  | 17 => ⟨S4x4096x128, .f32⟩
  | 18 => ⟨S4x4096x128, .f32⟩
  | 19 => ⟨S4x4096x8, .f32⟩
  | 20 => ⟨S4x4096x8, .f32⟩
  | 21 => ⟨S4x4096x128, .f32⟩
  | 22 => ⟨S4x4096x128x1, .f32⟩
  | 23 => ⟨S4x4096x1x8, .f32⟩
  | 24 => ⟨S4x4096x128x8, .f32⟩
  | 25 => ⟨S4x4096x128x8, .f32⟩
  | 26 => ⟨S4x4096x128x8, .f32⟩
  | 27 => ⟨S4x4096x128, .f32⟩
  | 28 => ⟨S4x4096x128x1, .f32⟩
  | 29 => ⟨S4x4096x1x8, .f32⟩
  | 30 => ⟨S4x4096x128x8, .f32⟩
  | 31 => ⟨S4x4096x128x8, .f32⟩
  | 32 => ⟨S4x4096x128x8, .f32⟩
  | 33 => ⟨S_, .f32⟩
  | 34 => ⟨S_, .f32⟩
  | 35 => ⟨S4x4096x128x8, .f32⟩
  | 36 => ⟨S_, .f32⟩
  | 37 => ⟨S_, .f32⟩
  | 38 => ⟨S4x4096x128x8, .f32⟩
  | 39 => ⟨S_, .f32⟩
  | 40 => ⟨S_, .f32⟩
  | 41 => ⟨S4x4096x1, .f32⟩
  | 42 => ⟨S_, .f32⟩
  | 43 => ⟨S_, .f32⟩
  | 44 => ⟨S4x4096x1, .f32⟩
  | 45 => ⟨S4x4096x1, .f32⟩
  | 46 => ⟨S4x4096x1, .f32⟩
  | 47 => ⟨S4x4096x1x1, .f32⟩
  | 48 => ⟨S_, .f32⟩
  | 49 => ⟨S4x4096x1x1, .f32⟩
  | 50 => ⟨S4x4096x1x1, .f32⟩
  | 51 => ⟨S4x4096x128x8, .f32⟩
  | 52 => ⟨S4x4096x128x8, .f32⟩
  | 53 => ⟨S4x4096x128x8, .f32⟩
  | 54 => ⟨S4x4096x128x8, .f32⟩
  | 55 => ⟨S4x4096x128, .f32⟩
  | 56 => ⟨S4x4096x128x1, .f32⟩
  | 57 => ⟨S4x4096x128x8, .f32⟩
  | 58 => ⟨S4x4096x128x8, .f32⟩
  | 59 => ⟨S4x4096x128, .f32⟩
  | 60 => ⟨S4x4096x128x1, .f32⟩
  | 61 => ⟨S4x4096x128x8, .f32⟩
  | 62 => ⟨S4x4096x128x8, .f32⟩
  | 63 => ⟨S4x4096x128x8, .f32⟩
  | 64 => ⟨S_, .f32⟩
  | 65 => ⟨S4x4096x8, .f32⟩
  | 66 => ⟨S_, .f32⟩
  | 67 => ⟨S4x4096x8, .f32⟩
  | 68 => ⟨S4x4096x8, .f32⟩
  | 69 => ⟨S4x4096x512, .f32⟩
  | 70 => ⟨S1x1x512, .f32⟩
  | 71 => ⟨S4x4096x512, .f32⟩
  | 72 => ⟨S4x4096x512, .f32⟩
  | 73 => ⟨S4x4096x1024, .f32⟩
  | 74 => ⟨S_, .f32⟩
  | 75 => ⟨S4x4096, .f32⟩
  | 76 => ⟨S4x4096x1, .f32⟩
  | 77 => ⟨S_, .f32⟩
  | 78 => ⟨S4x4096x1, .f32⟩
  | 79 => ⟨S4x4096x1, .f32⟩
  | 80 => ⟨S_, .i32⟩
  | 81 => ⟨S_, .f32⟩
  | 82 => ⟨S4x4096, .f32⟩
  | 83 => ⟨S4x4096x1, .f32⟩
  | 84 => ⟨S_, .f32⟩
  | 85 => ⟨S4x4096x1, .f32⟩
  | 86 => ⟨S4x4096x1, .f32⟩
  | 87 => ⟨S4x4096x1024, .f32⟩
  | 88 => ⟨S4x4096x1024, .f32⟩
  | 89 => ⟨S4x4096x1024, .f32⟩
  | 90 => ⟨S_, .f32⟩
  | 91 => ⟨S_, .f32⟩
  | 92 => ⟨S_, .f32⟩
  | 93 => ⟨S_, .f32⟩
  | 94 => ⟨S4x4096, .f32⟩
  | 95 => ⟨S4x4096x1, .f32⟩
  | 96 => ⟨S4x4096x1, .f32⟩
  | 97 => ⟨S4x4096x1, .f32⟩
  | 98 => ⟨S_, .f32⟩
  | 99 => ⟨S_, .i1⟩
  | 100 => ⟨S_, .f32⟩
  | 101 => ⟨S_, .f32⟩
  | 102 => ⟨S4x4096x1, .f32⟩
  | 103 => ⟨S4x4096x1, .f32⟩
  | 104 => ⟨S4x4096x1024, .f32⟩
  | 105 => ⟨S4x4096x1024, .f32⟩
  | 106 => ⟨S_, .f32⟩
  | 107 => ⟨S4x4096x1, .f32⟩
  | 108 => ⟨S4x4096x1, .f32⟩
  | 109 => ⟨S4x4096x1, .f32⟩
  | 110 => ⟨S4x4096x1024, .f32⟩
  | 111 => ⟨S4x4096x1024, .f32⟩
  | 112 => ⟨S1x1x1024, .f32⟩
  | 113 => ⟨S4x4096x1024, .f32⟩
  | 114 => ⟨S4x4096x1024, .f32⟩
  | 115 => ⟨S1x1x1024, .f32⟩
  | 116 => ⟨S4x4096x1024, .f32⟩
  | 117 => ⟨S4x4096x1024, .f32⟩
  | 118 => ⟨S4x4096x1024, .f32⟩
  | 119 => ⟨S1x1x1024, .f32⟩
  | 120 => ⟨S4x4096x1024, .f32⟩
  | 121 => ⟨S4x4096x1024, .f32⟩
  | 122 => ⟨S_, .f32⟩
  | 123 => ⟨S4x4096x1024, .f32⟩
  | 124 => ⟨S4x4096x1024, .f32⟩
  | 125 => ⟨S4x4096x1024, .f32⟩
  | 126 => ⟨S_, .f32⟩
  | 127 => ⟨S4x4096x1024, .f32⟩
  | _ => ⟨S4x4096x512, .f32⟩

abbrev hbmTy0_2 (i : Nat) : BufTy := match i % 128 with
  | 0 => ⟨S4x4096x1024, .f32⟩
  | 1 => ⟨S4x4096x1024, .f32⟩
  | 2 => ⟨S4x4096x1024, .f32⟩
  | 3 => ⟨S4x4096x512, .f32⟩
  | 4 => ⟨S1x1x512, .f32⟩
  | 5 => ⟨S4x4096x512, .f32⟩
  | 6 => ⟨S4x4096x512, .f32⟩
  | 7 => ⟨S4x4096x512, .f32⟩
  | _ => ⟨S4x4096x512, .f32⟩

abbrev hbmTy (i : Nat) : BufTy := match i / 128 with
  | 0 => hbmTy0_0 i
  | 1 => hbmTy0_1 i
  | 2 => hbmTy0_2 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst : Ref sig .tc := ⟨.hbm, 41, rfl⟩
abbrev main_v12 : Ref sig .tc := ⟨.hbm, 42, rfl⟩
abbrev main_v13 : Ref sig .tc := ⟨.hbm, 43, rfl⟩
abbrev main_cst_0 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_call0_call0_cst : Ref sig .tc := ⟨.hbm, 54, rfl⟩
abbrev main_call0_call0_v0 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_call1_call0_cst : Ref sig .tc := ⟨.hbm, 60, rfl⟩
abbrev main_call1_call0_v0 : Ref sig .tc := ⟨.hbm, 61, rfl⟩
abbrev main_v27 : Ref sig .tc := ⟨.hbm, 62, rfl⟩
abbrev main_call2_call0_cst : Ref sig .tc := ⟨.hbm, 63, rfl⟩
abbrev main_call2_call0_v0 : Ref sig .tc := ⟨.hbm, 64, rfl⟩
abbrev main_v28 : Ref sig .tc := ⟨.hbm, 65, rfl⟩
abbrev main_cst_1 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_2 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_3 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_4 : Ref sig .tc := ⟨.hbm, 109, rfl⟩
abbrev main_v69 : Ref sig .tc := ⟨.hbm, 110, rfl⟩
abbrev main_v70 : Ref sig .tc := ⟨.hbm, 111, rfl⟩
abbrev main_cst_5 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_6 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_call3_call0_cst : Ref sig .tc := ⟨.hbm, 120, rfl⟩
abbrev main_call3_call0_v0 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_7 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_8 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_9 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_call4_call0_cst : Ref sig .tc := ⟨.hbm, 161, rfl⟩
abbrev main_call4_call0_v0 : Ref sig .tc := ⟨.hbm, 162, rfl⟩
abbrev main_v113 : Ref sig .tc := ⟨.hbm, 163, rfl⟩
abbrev main_call5_call0_cst : Ref sig .tc := ⟨.hbm, 164, rfl⟩
abbrev main_call5_call0_v0 : Ref sig .tc := ⟨.hbm, 165, rfl⟩
abbrev main_v114 : Ref sig .tc := ⟨.hbm, 166, rfl⟩
abbrev main_call6_call0_cst : Ref sig .tc := ⟨.hbm, 167, rfl⟩
abbrev main_call6_call0_v0 : Ref sig .tc := ⟨.hbm, 168, rfl⟩
abbrev main_v115 : Ref sig .tc := ⟨.hbm, 169, rfl⟩
abbrev main_cst_10 : Ref sig .tc := ⟨.hbm, 170, rfl⟩
abbrev main_call7_v0 : Ref sig .tc := ⟨.hbm, 171, rfl⟩
abbrev main_call7_v1 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_11 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_12 : Ref sig .tc := ⟨.hbm, 192, rfl⟩
abbrev main_v134 : Ref sig .tc := ⟨.hbm, 193, rfl⟩
abbrev main_cst_13 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_cst_14 : Ref sig .tc := ⟨.hbm, 202, rfl⟩
abbrev main_v142 : Ref sig .tc := ⟨.hbm, 203, rfl⟩
abbrev main_v143 : Ref sig .tc := ⟨.hbm, 204, rfl⟩
abbrev main_cst_15 : Ref sig .tc := ⟨.hbm, 205, rfl⟩
abbrev main_v144 : Ref sig .tc := ⟨.hbm, 206, rfl⟩
abbrev main_v145 : Ref sig .tc := ⟨.hbm, 207, rfl⟩
abbrev main_c : Ref sig .tc := ⟨.hbm, 208, rfl⟩
abbrev main_call8_cst : Ref sig .tc := ⟨.hbm, 209, rfl⟩
abbrev main_call8_v0 : Ref sig .tc := ⟨.hbm, 210, rfl⟩
abbrev main_call8_v1 : Ref sig .tc := ⟨.hbm, 211, rfl⟩
abbrev main_call8_cst_0 : Ref sig .tc := ⟨.hbm, 212, rfl⟩
abbrev main_call8_v2 : Ref sig .tc := ⟨.hbm, 213, rfl⟩
abbrev main_call8_v3 : Ref sig .tc := ⟨.hbm, 214, rfl⟩
abbrev main_call8_v4 : Ref sig .tc := ⟨.hbm, 215, rfl⟩
abbrev main_call8_v5 : Ref sig .tc := ⟨.hbm, 216, rfl⟩
abbrev main_call8_v6 : Ref sig .tc := ⟨.hbm, 217, rfl⟩
abbrev main_call8_v7 : Ref sig .tc := ⟨.hbm, 218, rfl⟩
abbrev main_call8_cst_1 : Ref sig .tc := ⟨.hbm, 219, rfl⟩
abbrev main_call8_v8 : Ref sig .tc := ⟨.hbm, 220, rfl⟩
abbrev main_call8_cst_2 : Ref sig .tc := ⟨.hbm, 221, rfl⟩
abbrev main_call8_v9 : Ref sig .tc := ⟨.hbm, 222, rfl⟩
abbrev main_call8_v10 : Ref sig .tc := ⟨.hbm, 223, rfl⟩
abbrev main_call8_v11 : Ref sig .tc := ⟨.hbm, 224, rfl⟩
abbrev main_call8_v12 : Ref sig .tc := ⟨.hbm, 225, rfl⟩
abbrev main_call8_cst_3 : Ref sig .tc := ⟨.hbm, 226, rfl⟩
abbrev main_call8_v13 : Ref sig .tc := ⟨.hbm, 227, rfl⟩
abbrev main_call8_cst_4 : Ref sig .tc := ⟨.hbm, 228, rfl⟩
abbrev main_call8_call0_v0 : Ref sig .tc := ⟨.hbm, 229, rfl⟩
abbrev main_call8_call0_v1 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_cst_16 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_cst_17 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_cst_18 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩

abbrev nD : Nat := 1
abbrev τ : Topo := Topo.v7x

variable {F : FTy → Type} [FloatOps F]
-- ==== Proof.Kern.Region0.lean ====
/-
  The first kernel: the cosine and the sine of the position phases, 512 rows at a time.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Phasor

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What window `w` of the first kernel holds at point `t`. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- A whole block of the first kernel. -/
abbrev all0 : Rect S512x512 := Rect.unit (s := S512x512) ![0, 0] S512x512.size inb_S512x512_S512x512_0_0

/-- The cosines that it stores, -/
noncomputable def cosBlock (x : Vec F S512x512 .f32) : Vec F S512x512 .f32 := View.canon [⟨all0, k0_pay1 (View.ld x all0)⟩]

/-- and the sines. -/
noncomputable def sinBlock (x : Vec F S512x512 .f32) : Vec F S512x512 .f32 := View.canon [⟨all0, k0_pay2 (View.ld x all0)⟩]

/-- One store of a whole block fills it. -/
theorem all0_cover (p : Vec F S512x512 .f32) (y : S512x512.Idx) : ∃ q ∈ ([⟨all0, p⟩] : List (View.Piece (Elt F) S512x512 .f32)), y ∈ q.1.set :=
  View.cover_of_tiled [⟨all0, p⟩] S512x512.size (by rfl) y

set_option maxHeartbeats 1000000 in
/-- The body of the first kernel. -/
theorem tables (c : Dev nD) (E : Set ℕ) (i : grid0.Coords) (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (x : Vec F S512x512 .f32) (K : PUnit → sProp 𝕄) :
    iprop(owns (c : Thread nD τ) arg1 fullShare x ∗ (∃ d, owns (c : Thread nD τ) arg2 fullShare d) ∗ (∃ d, owns (c : Thread nD τ) arg3 fullShare d)
        ∗ (iprop(owns (c : Thread nD τ) arg1 fullShare x ∗ owns (c : Thread nD τ) arg2 fullShare (cosBlock x) ∗ owns (c : Thread nD τ) arg3 fullShare (sinBlock x)) -∗ K ⟨⟩))
      ⊢ wp frame (wpE (defs₀ (F := F)) Variants.none c none) E (cc0_phasor_trig_tables i arg1 harg1 arg2 harg2 arg3 harg3) K := by
  simp only [cc0_phasor_trig_tables_eq_skeleton]; unfold cc0_phasor_trig_tables_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (all0_cover _)
  iexists _; isplitr
  swap; · iexact H2
  ipureintro
  exact View.read_writes_eq_canon _ _ _ (all0_cover _)

/-- The data of the first kernel's pipeline. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => cosBlock (iblk0 V c 0 t)
    | ⟨2, _⟩ => sinBlock (iblk0 V c 0 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = cosBlock (iblk0 V c 0 t) := by dsimp only [dat0]
theorem after0_2 (c : Dev nD) (t : Fin cfg0.N) : (dat0 V c).after 2 t = sinBlock (iblk0 V c 0 t) := by dsimp only [dat0]

/-- The input window holds its block when the body starts. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- What the body is handed at point `t`, -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it gives back. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem point0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (tables c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem row0 (t : Fin cfg0.N) : defs₀ (F := F) .tc cfg0.body (cfg0.bodyArgs t (cfg0.slots t)) = bodyAt0 t := by
  unfold defs₀; rw [Defs.onTc_tc]

/-- The body does at every point what the pipeline asks of it. -/
theorem body_obligation0 (c : Dev nD) : BodyObligation (dat0 (F := F) V c) (defs₀ (F := F)) Variants.none () Set.univ := fun t => by
  rw [bigSep_W0, bigSep_W0, row0]
  exact triple_restated (point0 V c t) rfl .rfl fun _ => .rfl

end Cert.Phasor

end
-- ==== Proof.Kern.Start.lean ====
/-
  What one grid point of the fused kernel starts from: the branch it takes, and the buffers it reads.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Phasor

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kernel's own test for the first block of a sequence. -/
abbrev atFirst (i : grid1.Coords) : Prop :=
  (Scalar.cmpi .ne (Scalar.extui (Scalar.cmpi .eq (BitVec.ofNat 32 (i 1).val) 0#32)) 0#32) = 1#1

/-- The twenty buffers a grid point reads, each whole at its contents. -/
def inputs (c : Dev nD)
    (arg2 : Memref sig .tc .vmem S1x1024x512 .f32)
    (arg3 : Memref sig .tc .vmem S1024x512 .f32)
    (arg4 : Memref sig .tc .vmem S1024x512 .f32)
    (arg5 : Memref sig .tc .vmem S1x1 .f32)
    (arg6 : Memref sig .tc .vmem S512x1920 .f32)
    (arg7 : Memref sig .tc .vmem S1x1920 .f32)
    (arg8 : Memref sig .tc .vmem S512x512 .f32)
    (arg9 : Memref sig .tc .vmem S1x512 .f32)
    (arg10 : Memref sig .tc .vmem S1024x512 .f32)
    (arg11 : Memref sig .tc .vmem S1x512 .f32)
    (arg12 : Memref sig .tc .vmem S512x128 .f32)
    (arg13 : Memref sig .tc .vmem S1x128 .f32)
    (arg14 : Memref sig .tc .vmem S128x512 .f32)
    (arg15 : Memref sig .tc .vmem S1x512 .f32)
    (arg16 : Memref sig .tc .vmem S1x1024 .f32)
    (arg17 : Memref sig .tc .vmem S1x1024 .f32)
    (arg18 : Memref sig .tc .vmem S1024x1024 .f32)
    (arg19 : Memref sig .tc .vmem S1x1024 .f32)
    (arg20 : Memref sig .tc .vmem S1024x512 .f32)
    (arg21 : Memref sig .tc .vmem S1x512 .f32)
    (x0 : Vec F S1x1024x512 .f32) (x1 : Vec F S1024x512 .f32) (x2 : Vec F S1024x512 .f32) (x3 : Vec F S1x1 .f32) (x4 : Vec F S512x1920 .f32)
  (x5 : Vec F S1x1920 .f32) (x6 : Vec F S512x512 .f32) (x7 : Vec F S1x512 .f32) (x8 : Vec F S1024x512 .f32) (x9 : Vec F S1x512 .f32)
  (x10 : Vec F S512x128 .f32) (x11 : Vec F S1x128 .f32) (x12 : Vec F S128x512 .f32) (x13 : Vec F S1x512 .f32) (x14 : Vec F S1x1024 .f32)
  (x15 : Vec F S1x1024 .f32) (x16 : Vec F S1024x1024 .f32) (x17 : Vec F S1x1024 .f32) (x18 : Vec F S1024x512 .f32) (x19 : Vec F S1x512 .f32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6 ∗ owns (c : Thread nD τ) arg9 fullShare x7 ∗ owns (c : Thread nD τ) arg10 fullShare x8
    ∗ owns (c : Thread nD τ) arg11 fullShare x9 ∗ owns (c : Thread nD τ) arg12 fullShare x10 ∗ owns (c : Thread nD τ) arg13 fullShare x11
    ∗ owns (c : Thread nD τ) arg14 fullShare x12 ∗ owns (c : Thread nD τ) arg15 fullShare x13 ∗ owns (c : Thread nD τ) arg16 fullShare x14
    ∗ owns (c : Thread nD τ) arg17 fullShare x15 ∗ owns (c : Thread nD τ) arg18 fullShare x16 ∗ owns (c : Thread nD τ) arg19 fullShare x17
    ∗ owns (c : Thread nD τ) arg20 fullShare x18 ∗ owns (c : Thread nD τ) arg21 fullShare x19)

end Cert.Phasor

end
-- ==== Proof.Kern.RunA.lean ====
/-
  The fused kernel's body at a grid point that starts a sequence, run from start to end.
-/
module

public import proofs.«01_k».proof.Proof.Kern.Start

@[expose] public section

set_option maxRecDepth 16384

noncomputable section

namespace Cert.Phasor

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 0 in
/-- The lists of what the body stores in the output window and in the two scratches (last store first), and that the body
    runs from its buffers to their holding exactly these stores. The lists are the ones that the execution finds. -/
def runA (c : Dev nD) (i : grid1.Coords)
  (arg2 : Memref sig .tc .vmem S1x1024x512 .f32) (harg2 : arg2.IsWhole) (arg3 : Memref sig .tc .vmem S1024x512 .f32) (harg3 : arg3.IsWhole) (arg4 : Memref sig .tc .vmem S1024x512 .f32) (harg4 : arg4.IsWhole)
  (arg5 : Memref sig .tc .vmem S1x1 .f32) (harg5 : arg5.IsWhole) (arg6 : Memref sig .tc .vmem S512x1920 .f32) (harg6 : arg6.IsWhole) (arg7 : Memref sig .tc .vmem S1x1920 .f32) (harg7 : arg7.IsWhole)
  (arg8 : Memref sig .tc .vmem S512x512 .f32) (harg8 : arg8.IsWhole) (arg9 : Memref sig .tc .vmem S1x512 .f32) (harg9 : arg9.IsWhole) (arg10 : Memref sig .tc .vmem S1024x512 .f32) (harg10 : arg10.IsWhole)
  (arg11 : Memref sig .tc .vmem S1x512 .f32) (harg11 : arg11.IsWhole) (arg12 : Memref sig .tc .vmem S512x128 .f32) (harg12 : arg12.IsWhole) (arg13 : Memref sig .tc .vmem S1x128 .f32) (harg13 : arg13.IsWhole)
  (arg14 : Memref sig .tc .vmem S128x512 .f32) (harg14 : arg14.IsWhole) (arg15 : Memref sig .tc .vmem S1x512 .f32) (harg15 : arg15.IsWhole) (arg16 : Memref sig .tc .vmem S1x1024 .f32) (harg16 : arg16.IsWhole)
  (arg17 : Memref sig .tc .vmem S1x1024 .f32) (harg17 : arg17.IsWhole) (arg18 : Memref sig .tc .vmem S1024x1024 .f32) (harg18 : arg18.IsWhole) (arg19 : Memref sig .tc .vmem S1x1024 .f32) (harg19 : arg19.IsWhole)
  (arg20 : Memref sig .tc .vmem S1024x512 .f32) (harg20 : arg20.IsWhole) (arg21 : Memref sig .tc .vmem S1x512 .f32) (harg21 : arg21.IsWhole)
  (arg22 : Memref sig .tc .vmem S1x1024x512 .f32) (harg22 : arg22.IsWhole)
  (arg23 : Memref sig .tc .vmem S1x2176 .f32) (harg23 : arg23.IsWhole) (arg24 : Memref sig .tc .vmem S256x128 .f32) (harg24 : arg24.IsWhole) (hc0 : atFirst i)
  (x0 : Vec F S1x1024x512 .f32) (x1 : Vec F S1024x512 .f32) (x2 : Vec F S1024x512 .f32) (x3 : Vec F S1x1 .f32) (x4 : Vec F S512x1920 .f32)
  (x5 : Vec F S1x1920 .f32) (x6 : Vec F S512x512 .f32) (x7 : Vec F S1x512 .f32) (x8 : Vec F S1024x512 .f32) (x9 : Vec F S1x512 .f32)
  (x10 : Vec F S512x128 .f32) (x11 : Vec F S1x128 .f32) (x12 : Vec F S128x512 .f32) (x13 : Vec F S1x512 .f32) (x14 : Vec F S1x1024 .f32)
  (x15 : Vec F S1x1024 .f32) (x16 : Vec F S1024x1024 .f32) (x17 : Vec F S1x1024 .f32) (x18 : Vec F S1024x512 .f32) (x19 : Vec F S1x512 .f32) :
    Σ' (L20 : List (View.Piece (Elt F) S1x1024x512 .f32)), Σ' (LS0 : List (View.Piece (Elt F) S1x2176 .f32)), { LS1 : List (View.Piece (Elt F) S256x128 .f32) //
      ∀ (E : Set ℕ) (K : PUnit → sProp 𝕄),
        iprop(inputs c arg2 arg3 arg4 arg5 arg6 arg7 arg8 arg9 arg10 arg11 arg12 arg13 arg14 arg15 arg16 arg17 arg18 arg19 arg20 arg21 x0 x1 x2 x3 x4 x5 x6 x7 x8 x9 x10 x11 x12 x13 x14 x15 x16 x17 x18 x19 ∗ (∃ d, owns (c : Thread nD τ) arg22 fullShare d) ∗ (∃ d, owns (c : Thread nD τ) arg23 fullShare d) ∗ (∃ d, owns (c : Thread nD τ) arg24 fullShare d)
            ∗ (iprop(inputs c arg2 arg3 arg4 arg5 arg6 arg7 arg8 arg9 arg10 arg11 arg12 arg13 arg14 arg15 arg16 arg17 arg18 arg19 arg20 arg21 x0 x1 x2 x3 x4 x5 x6 x7 x8 x9 x10 x11 x12 x13 x14 x15 x16 x17 x18 x19
                ∗ (∃ f, arg22.view.loc (c : Thread nD τ) ↦[arg22.view.set]{fullShare} arg22.view.writes (Elt F) f L20)
                ∗ (∃ f, arg23.view.loc (c : Thread nD τ) ↦[arg23.view.set]{fullShare} arg23.view.writes (Elt F) f LS0)
                ∗ (∃ f, arg24.view.loc (c : Thread nD τ) ↦[arg24.view.set]{fullShare} arg24.view.writes (Elt F) f LS1)) -∗ K ⟨⟩))
          ⊢ wp frame (wpE (defs₀ (F := F)) Variants.none c none) E
              (cc1_phasor_block_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, fun E K => ?run⟩
  case run =>
    simp only [cc1_phasor_block_fused_eq_skeleton]; unfold cc1_phasor_block_fused_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, ⟨%d20, %f20, -, H20⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19
    sl_exec (disch := first | sl_exact hc0)
    sl_step
    iapply Hk
    isplitl [H0 H1 H2 H3 H4 H5 H6 H7 H8 H9 H10 H11 H12 H13 H14 H15 H16 H17 H18 H19]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      isplitl [H13]
      · iexists _; isplitr; · ipureintro; exact harg15.read_unread _
        iexact H13
      isplitl [H14]
      · iexists _; isplitr; · ipureintro; exact harg16.read_unread _
        iexact H14
      isplitl [H15]
      · iexists _; isplitr; · ipureintro; exact harg17.read_unread _
        iexact H15
      isplitl [H16]
      · iexists _; isplitr; · ipureintro; exact harg18.read_unread _
        iexact H16
      isplitl [H17]
      · iexists _; isplitr; · ipureintro; exact harg19.read_unread _
        iexact H17
      isplitl [H18]
      · iexists _; isplitr; · ipureintro; exact harg20.read_unread _
        iexact H18
      iexists _; isplitr; · ipureintro; exact harg21.read_unread _
      iexact H19
    isplitl [H20]; · iexists _; iexact H20
    isplitl [HS0]; · iexists _; iexact HS0
    iexists _; iexact HS1

end Cert.Phasor

end
-- ==== Proof.Kern.Block.lean ====
/-
  What the fused kernel does to one sub-block of 256 rows, as vector functions.

  The body of the second kernel treats the 1024 rows of its window in four sub-blocks of 256 rows, one after the other. Each
  sub-block does the same thing: it projects its rows, forms running sums with the triangle matrix, retrieves from the two
  memories, and leaves a new `carry` row and a new `state` for the sub-block after it. This module states that one step once,
  in the operations of the printed program, for any floats. Kern/Run.lean shows that the body is four of these steps.
-/
module

public import proofs.«01_k».proof.Proof.Gen.KernelIdeal.Skeleton

@[expose] public section

noncomputable section

namespace Cert.Phasor

open Idealize.ShloMosaic Cert.KernelIdeal Cert.KernelIdeal.Gen

variable {F : FTy → Type} [FloatOps F] [Named F]

/-- The arrays every grid point of the fused kernel reads whole: the magnitude scale, the joined projection and its bias, then
    the weights and biases of the output, storage, key-value, normalisation and mixing layers. -/
structure Params (F : FTy → Type) where
  ms : Vec F S1x1 .f32
  wcat : Vec F S512x1920 .f32
  bcat : Vec F S1x1920 .f32
  wo : Vec F S512x512 .f32
  bo : Vec F S1x512 .f32
  ws1 : Vec F S1024x512 .f32
  bs1 : Vec F S1x512 .f32
  ws2 : Vec F S512x128 .f32
  bs2 : Vec F S1x128 .f32
  wkv : Vec F S128x512 .f32
  bkv : Vec F S1x512 .f32
  lng : Vec F S1x1024 .f32
  lnb : Vec F S1x1024 .f32
  wt1 : Vec F S1024x1024 .f32
  bt1 : Vec F S1x1024 .f32
  wt2 : Vec F S1024x512 .f32
  bt2 : Vec F S1x512 .f32

/-- What a sub-block reads of its own: its 256 rows of `x` and of the two phase tables, the carried row and state, and the
    position of its first row (counted from one). -/
structure Rows (F : FTy → Type) where
  x : Vec F S1x256x512 .f32
  c : Vec F S256x512 .f32
  s : Vec F S256x512 .f32
  carry : Vec F S1x2176 .f32
  state : Vec F S256x128 .f32
  first : BitVec 32

variable (w : Params F) (r : Rows F)

/-- The triangle of ones on and below the diagonal. -/
def tri : FVec F S256x256 .f32 :=
  sitofp .f32 (extui 32 (cmpi .sge (iota .tc S256x256 32 [0] iota_S256x256_d0_w32) (iota .tc S256x256 32 [1] iota_S256x256_d1_w32)) natLt_1_32)

/-- The rows as a matrix. -/
def rowsX : FVec F S256x512 .f32 := shapeCast S256x512 r.x shapeCasts_S1x256x512_S256x512
def rowsC : FVec F S256x512 .f32 := shapeCast S256x512 r.c shapeCasts_S256x512_S256x512
def rowsS : FVec F S256x512 .f32 := shapeCast S256x512 r.s shapeCasts_S256x512_S256x512

/-- All projections of the rows side by side. -/
def proj : FVec F S256x1920 .f32 :=
  addf (matmul dot_S256x512_S512x1920_S256x1920_1_0_0_1_n_n none (rowsX r)
      (shapeCast S512x1920 w.wcat shapeCasts_S512x1920_S512x1920) (constant S256x1920 .f32 0x00000000#32))
    (broadcastTo S256x1920 (shapeCast S1x1920 w.bcat shapeCasts_S1x1920_S1x1920) broadcasts_S1x1920_S256x1920)

/-- The magnitude: the logistic of its projection times the scale's absolute value. -/
def magn : FVec F S256x512 .f32 :=
  mulf (logistic (extractStridedSlice S256x512 ![0, 512] (proj w r) slices_S256x1920_o0_512_S256x512))
    (broadcastTo S256x512 (absf (shapeCast S1x1 w.ms shapeCasts_S1x1_S1x1)) broadcasts_S1x1_S256x512)

/-- The magnitude times the value projection. -/
def weighted : FVec F S256x512 .f32 :=
  mulf (magn w r) (extractStridedSlice S256x512 ![0, 0] (proj w r) slices_S256x1920_o0_0_S256x512)

/-- The storage gate, repeated along 128 columns. -/
def gate : FVec F S256x128 .f32 :=
  broadcastTo S256x128 (shapeCast S256x1 (logistic (extractStridedSlice S256x1 ![0, 1792] (proj w r) slices_S256x1920_o0_1792_S256x1))
    shapeCasts_S256x1_S256x1) broadcasts_S256x1_S256x128

/-- What is summed along the rows: the two bound signals, the magnitude, the rows and the gate, side by side. -/
def summands : FVec F S256x2176 .f32 :=
  concatenate S256x2176 1 [⟨S256x512, mulf (weighted w r) (rowsC r)⟩, ⟨S256x512, mulf (weighted w r) (rowsS r)⟩, ⟨S256x512, magn w r⟩,
    ⟨S256x512, rowsX r⟩, ⟨S256x128, gate w r⟩] concatenates_S256x512_S256x512_S256x512_S256x512_S256x128_S256x2176_d1

/-- The running sums: the triangle times the summands, and the carried row on every row. -/
def sums : FVec F S256x2176 .f32 :=
  addf (matmul dot_S256x256_S256x2176_S256x2176_1_0_0_1_n_n none (tri (F := F)) (summands w r) (constant S256x2176 .f32 0x00000000#32))
    (broadcastTo S256x2176 r.carry broadcasts_S1x2176_S256x2176)

/-- The row carried on: the last of the running sums. -/
def nextCarry : FVec F S1x2176 .f32 := extractStridedSlice S1x2176 ![255, 0] (sums w r) slices_S256x2176_o255_0_S1x2176

/-- The angle the query adds to the position's phase. -/
def dphase : FVec F S256x512 .f32 := extractStridedSlice S256x512 ![0, 1024] (proj w r) slices_S256x1920_o0_1024_S256x512

/-- The positional retrieval, before its layer. -/
def posRet : FVec F S256x512 .f32 :=
  mulf (mulf (addf
      (mulf (extractStridedSlice S256x512 ![0, 0] (sums w r) slices_S256x2176_o0_0_S256x512)
        (subf (mulf (rowsC r) (cos (dphase w r))) (mulf (rowsS r) (sin (dphase w r)))))
      (mulf (extractStridedSlice S256x512 ![0, 512] (sums w r) slices_S256x2176_o0_512_S256x512)
        (addf (mulf (rowsS r) (cos (dphase w r))) (mulf (rowsC r) (sin (dphase w r))))))
    (rsqrt (addf (extractStridedSlice S256x512 ![0, 1024] (sums w r) slices_S256x2176_o0_1024_S256x512)
      (broadcast S256x512 (Scalar.ofBits .f32 0x322BCC77#32)))))
    (broadcast S256x512 (Named.named κ "inv_sqrt_512" 0x3D3504F3#32))

/-- The positional output. -/
def posOut : FVec F S256x512 .f32 :=
  addf (matmul dot_S256x512_S512x512_S256x512_1_0_0_1_n_n none (posRet w r) w.wo (constant S256x512 .f32 0x00000000#32))
    (broadcastTo S256x512 (shapeCast S1x512 w.bo shapeCasts_S1x512_S1x512) broadcasts_S1x512_S256x512)

/-- The positions of the rows, counted from one, as floats. -/
def posn : FVec F S256x1 .f32 :=
  sitofp .f32 (addi (iota .tc S256x1 32 [0] iota_S256x1_d0_w32) (broadcast S256x1 r.first))

/-- The mean of the rows so far. -/
def context : FVec F S256x512 .f32 :=
  mulf (extractStridedSlice S256x512 ![0, 1536] (sums w r) slices_S256x2176_o0_1536_S256x512)
    (broadcastTo S256x512 (divf (broadcast S256x1 (Scalar.ofBits .f32 0x3F800000#32)) (posn r)) broadcasts_S256x1_S256x512)

/-- The exact gelu of the kernel's text, at any shape. -/
def gelu {s : Shape} (z : FVec F s .f32) : FVec F s .f32 :=
  mulf (mulf (broadcast s (Scalar.ofBits .f32 0x3F000000#32)) z)
    (addf (broadcast s (Scalar.ofBits .f32 0x3F800000#32)) (erf (mulf z (broadcast s (Scalar.ofBits .f32 0x3F3504F3#32)))))

/-- The first storage layer, before its gelu. -/
def store1 : FVec F S256x512 .f32 :=
  addf (matmul dot_S256x1024_S1024x512_S256x512_1_0_0_1_n_n none
      (concatenate S256x1024 1 [⟨S256x512, rowsX r⟩, ⟨S256x512, context w r⟩] concatenates_S256x512_S256x512_S256x1024_d1) w.ws1
      (constant S256x512 .f32 0x00000000#32))
    (broadcastTo S256x512 (shapeCast S1x512 w.bs1 shapeCasts_S1x512_S1x512) broadcasts_S1x512_S256x512)

/-- The storage phase. -/
def storePhase : FVec F S256x128 .f32 :=
  mulf (tanh (addf (matmul dot_S256x512_S512x128_S256x128_1_0_0_1_n_n none (gelu (store1 w r)) w.ws2 (constant S256x128 .f32 0x00000000#32))
      (broadcastTo S256x128 (shapeCast S1x128 w.bs2 shapeCasts_S1x128_S1x128) broadcasts_S1x128_S256x128)))
    (broadcast S256x128 (Scalar.ofBits .f32 0x40490FDB#32))

/-- The query phase. -/
def queryPhase : FVec F S256x128 .f32 :=
  mulf (tanh (extractStridedSlice S256x128 ![0, 1536] (proj w r) slices_S256x1920_o0_1536_S256x128))
    (broadcast S256x128 (Scalar.ofBits .f32 0x40490FDB#32))

/-- A phase as its cosines followed by its sines. -/
def feat (p : FVec F S256x128 .f32) : FVec F S256x256 .f32 :=
  concatenate S256x256 1 [⟨S256x128, cos p⟩, ⟨S256x128, sin p⟩] concatenates_S256x128_S256x128_S256x256_d1

/-- The values, gated. -/
def gated : FVec F S256x128 .f32 :=
  mulf (extractStridedSlice S256x128 ![0, 1664] (proj w r) slices_S256x1920_o0_1664_S256x128) (gate w r)

/-- The retrieval of the key-value memory: from the rows of this sub-block by their masked scores, from those before it by the state. -/
def attn : FVec F S256x128 .f32 :=
  matmul dot_S256x512_S512x128_S256x128_1_0_0_1_n_n none
    (concatenate S256x512 1
      [⟨S256x256, mulf (matmul dot_S256x256_S256x256_S256x256_1_1_0_0_n_n none (feat (queryPhase w r)) (feat (storePhase w r))
          (constant S256x256 .f32 0x00000000#32)) (tri (F := F))⟩,
       ⟨S256x256, feat (queryPhase w r)⟩] concatenates_S256x256_S256x256_S256x512_d1)
    (concatenate S512x128 0 [⟨S256x128, gated w r⟩, ⟨S256x128, r.state⟩] concatenates_S256x128_S256x128_S512x128_d0)
    (constant S256x128 .f32 0x00000000#32)

/-- The state carried on. -/
def nextState : FVec F S256x128 .f32 :=
  addf r.state (matmul dot_S256x256_S256x128_S256x128_0_0_1_1_n_n none (feat (storePhase w r)) (gated w r)
    (constant S256x128 .f32 0x00000000#32))

/-- The key-value output. -/
def kvOut : FVec F S256x512 .f32 :=
  addf (matmul dot_S256x128_S128x512_S256x512_1_0_0_1_n_n none
      (mulf (mulf (attn w r) (rsqrt (maximumf (extractStridedSlice S256x128 ![0, 2048] (sums w r) slices_S256x2176_o0_2048_S256x128)
          (broadcast S256x128 (Scalar.ofBits .f32 0x3F800000#32)))))
        (broadcast S256x128 (Named.named κ "inv_sqrt_128" 0x3DB504F3#32)))
      (shapeCast S128x512 w.wkv shapeCasts_S128x512_S128x512) (constant S256x512 .f32 0x00000000#32))
    (broadcastTo S256x512 (shapeCast S1x512 w.bkv shapeCasts_S1x512_S1x512) broadcasts_S1x512_S256x512)

/-- Both outputs side by side. -/
def comb : FVec F S256x1024 .f32 :=
  concatenate S256x1024 1 [⟨S256x512, posOut w r⟩, ⟨S256x512, kvOut w r⟩] concatenates_S256x512_S256x512_S256x1024_d1

/-- The mean of each row of 1024 columns. -/
def rowMean (v : FVec F S256x1024 .f32) : FVec F S256x1 .f32 :=
  divf (shapeCast S256x1 (multiReduction .add [1] S256 v 0x00000000#32 reduces_S256x1024_S256 (.inl rfl) rfl) shapeCasts_S256_S256x1)
    (broadcast S256x1 (Scalar.ofBits .f32 0x44800000#32))

/-- A row less its mean. -/
def centred : FVec F S256x1024 .f32 := subf (comb w r) (broadcastTo S256x1024 (rowMean (comb w r)) broadcasts_S256x1_S256x1024)

/-- The layer norm. -/
def normed : FVec F S256x1024 .f32 :=
  addf (mulf (mulf (centred w r) (broadcastTo S256x1024
      (rsqrt (addf (rowMean (mulf (centred w r) (centred w r))) (broadcast S256x1 (Scalar.ofBits .f32 0x3727C5AC#32)))) broadcasts_S256x1_S256x1024))
    (broadcastTo S256x1024 (shapeCast S1x1024 w.lng shapeCasts_S1x1024_S1x1024) broadcasts_S1x1024_S256x1024))
    (broadcastTo S256x1024 (shapeCast S1x1024 w.lnb shapeCasts_S1x1024_S1x1024) broadcasts_S1x1024_S256x1024)

/-- The first mixing layer, before its gelu. -/
def mix1 : FVec F S256x1024 .f32 :=
  addf (matmul dot_S256x1024_S1024x1024_S256x1024_1_0_0_1_n_n none (normed w r) w.wt1 (constant S256x1024 .f32 0x00000000#32))
    (broadcastTo S256x1024 (shapeCast S1x1024 w.bt1 shapeCasts_S1x1024_S1x1024) broadcasts_S1x1024_S256x1024)

/-- The rows of the result. -/
def outRows : FVec F S1x256x512 .f32 :=
  shapeCast S1x256x512 (addf (addf (rowsX r)
      (matmul dot_S256x1024_S1024x512_S256x512_1_0_0_1_n_n none (gelu (mix1 w r)) w.wt2 (constant S256x512 .f32 0x00000000#32)))
    (broadcastTo S256x512 (shapeCast S1x512 w.bt2 shapeCasts_S1x512_S1x512) broadcasts_S1x512_S256x512)) shapeCasts_S256x512_S1x256x512

end Cert.Phasor

end
-- ==== Proof.Kern.Step.lean ====
/-
  What the fused kernel does at one grid point: four steps of Kern/Block.lean, each starting from what the one before carried.
-/
module

public import proofs.«01_k».proof.Proof.Kern.Block

@[expose] public section

noncomputable section

namespace Cert.Phasor

open Idealize.ShloMosaic Cert.KernelIdeal Cert.KernelIdeal.Gen

variable {F : FTy → Type} [FloatOps F] [Named F]

/-- What goes from one sub-block to the one after it. -/
structure Carried (F : FTy → Type) where
  carry : Vec F S1x2176 .f32
  state : Vec F S256x128 .f32

/-- What a sequence starts with: zeros. -/
def Carried.zero : Carried F := ⟨k1_pay4, k1_pay5⟩

/-- The sub-blocks of one grid point: their rows of `x` and of the two tables, and the position of the first row of each. -/
structure Blocks (F : FTy → Type) where
  x : ℕ → Vec F S1x256x512 .f32
  c : ℕ → Vec F S256x512 .f32
  s : ℕ → Vec F S256x512 .f32
  first : ℕ → BitVec 32

/-- What sub-block `k` reads, given what it is handed. -/
def Blocks.rows (b : Blocks F) (h : Carried F) (k : ℕ) : Rows F := ⟨b.x k, b.c k, b.s k, h.carry, h.state, b.first k⟩

/-- What the first `k` sub-blocks hand on. -/
def handed (w : Params F) (b : Blocks F) (h : Carried F) : ℕ → Carried F
  | 0 => h
  | k + 1 => ⟨nextCarry w (b.rows (handed w b h k) k), nextState w (b.rows (handed w b h k) k)⟩

/-- The rows of the result that sub-block `k` leaves. -/
def outAt (w : Params F) (b : Blocks F) (h : Carried F) (k : ℕ) : Vec F S1x256x512 .f32 :=
  outRows w (b.rows (handed w b h k) k)

/-- Four values by their number. -/
def four {α : Type} (a b c d : α) : ℕ → α
  | 0 => a
  | 1 => b
  | 2 => c
  | _ => d

/-- The position of the first row of sub-block `k` of grid point `i`, counted from one, as the kernel computes it. -/
def firstPos (i : grid1.Coords) (k : ℕ) : BitVec 32 :=
  Scalar.addi (Scalar.addi (Scalar.muli (BitVec.ofNat 32 (i 1).val) 1024#32) (four 0#32 256#32 512#32 768#32 k)) 1#32

end Cert.Phasor

end
-- ==== Proof.Kern.StoresA.lean ====
/-
  The stores that the run finds, as the steps of Kern/Step.lean.
-/
module

public import proofs.«01_k».proof.Proof.Kern.RunA
public import proofs.«01_k».proof.Proof.Kern.Step

@[expose] public section

set_option maxRecDepth 16384

noncomputable section

namespace Cert.Phasor

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section

variable (c : Dev nD) (i : grid1.Coords)
  (arg2 : Memref sig .tc .vmem S1x1024x512 .f32) (harg2 : arg2.IsWhole) (arg3 : Memref sig .tc .vmem S1024x512 .f32) (harg3 : arg3.IsWhole) (arg4 : Memref sig .tc .vmem S1024x512 .f32) (harg4 : arg4.IsWhole)
  (arg5 : Memref sig .tc .vmem S1x1 .f32) (harg5 : arg5.IsWhole) (arg6 : Memref sig .tc .vmem S512x1920 .f32) (harg6 : arg6.IsWhole) (arg7 : Memref sig .tc .vmem S1x1920 .f32) (harg7 : arg7.IsWhole)
  (arg8 : Memref sig .tc .vmem S512x512 .f32) (harg8 : arg8.IsWhole) (arg9 : Memref sig .tc .vmem S1x512 .f32) (harg9 : arg9.IsWhole) (arg10 : Memref sig .tc .vmem S1024x512 .f32) (harg10 : arg10.IsWhole)
  (arg11 : Memref sig .tc .vmem S1x512 .f32) (harg11 : arg11.IsWhole) (arg12 : Memref sig .tc .vmem S512x128 .f32) (harg12 : arg12.IsWhole) (arg13 : Memref sig .tc .vmem S1x128 .f32) (harg13 : arg13.IsWhole)
  (arg14 : Memref sig .tc .vmem S128x512 .f32) (harg14 : arg14.IsWhole) (arg15 : Memref sig .tc .vmem S1x512 .f32) (harg15 : arg15.IsWhole) (arg16 : Memref sig .tc .vmem S1x1024 .f32) (harg16 : arg16.IsWhole)
  (arg17 : Memref sig .tc .vmem S1x1024 .f32) (harg17 : arg17.IsWhole) (arg18 : Memref sig .tc .vmem S1024x1024 .f32) (harg18 : arg18.IsWhole) (arg19 : Memref sig .tc .vmem S1x1024 .f32) (harg19 : arg19.IsWhole)
  (arg20 : Memref sig .tc .vmem S1024x512 .f32) (harg20 : arg20.IsWhole) (arg21 : Memref sig .tc .vmem S1x512 .f32) (harg21 : arg21.IsWhole)
  (arg22 : Memref sig .tc .vmem S1x1024x512 .f32) (harg22 : arg22.IsWhole)
  (arg23 : Memref sig .tc .vmem S1x2176 .f32) (harg23 : arg23.IsWhole) (arg24 : Memref sig .tc .vmem S256x128 .f32) (harg24 : arg24.IsWhole) (hc0 : atFirst i)
  (x0 : Vec F S1x1024x512 .f32) (x1 : Vec F S1024x512 .f32) (x2 : Vec F S1024x512 .f32) (x3 : Vec F S1x1 .f32) (x4 : Vec F S512x1920 .f32)
  (x5 : Vec F S1x1920 .f32) (x6 : Vec F S512x512 .f32) (x7 : Vec F S1x512 .f32) (x8 : Vec F S1024x512 .f32) (x9 : Vec F S1x512 .f32)
  (x10 : Vec F S512x128 .f32) (x11 : Vec F S1x128 .f32) (x12 : Vec F S128x512 .f32) (x13 : Vec F S1x512 .f32) (x14 : Vec F S1x1024 .f32)
  (x15 : Vec F S1x1024 .f32) (x16 : Vec F S1024x1024 .f32) (x17 : Vec F S1x1024 .f32) (x18 : Vec F S1024x512 .f32) (x19 : Vec F S1x512 .f32)

set_option maxHeartbeats 0

/-- The parameters as the run loads them. -/
def parA : Params F :=
  ⟨arg5.view.readAt (Elt F) (Rect.unit (s := S1x1) ![0, 0] S1x1.size inb_S1x1_S1x1_0_0).toLoadRect (harg5.unread x3),
    arg6.view.readAt (Elt F) (Rect.unit (s := S512x1920) ![0, 0] S512x1920.size inb_S512x1920_S512x1920_0_0).toLoadRect (harg6.unread x4),
    arg7.view.readAt (Elt F) (Rect.unit (s := S1x1920) ![0, 0] S1x1920.size inb_S1x1920_S1x1920_0_0).toLoadRect (harg7.unread x5),
    arg8.view.readAt (Elt F) (Rect.unit (s := S512x512) ![0, 0] S512x512.size inb_S512x512_S512x512_0_0).toLoadRect (harg8.unread x6),
    arg9.view.readAt (Elt F) (Rect.unit (s := S1x512) ![0, 0] S1x512.size inb_S1x512_S1x512_0_0).toLoadRect (harg9.unread x7),
    arg10.view.readAt (Elt F) (Rect.unit (s := S1024x512) ![0, 0] S1024x512.size inb_S1024x512_S1024x512_0_0).toLoadRect (harg10.unread x8),
    arg11.view.readAt (Elt F) (Rect.unit (s := S1x512) ![0, 0] S1x512.size inb_S1x512_S1x512_0_0).toLoadRect (harg11.unread x9),
    arg12.view.readAt (Elt F) (Rect.unit (s := S512x128) ![0, 0] S512x128.size inb_S512x128_S512x128_0_0).toLoadRect (harg12.unread x10),
    arg13.view.readAt (Elt F) (Rect.unit (s := S1x128) ![0, 0] S1x128.size inb_S1x128_S1x128_0_0).toLoadRect (harg13.unread x11),
    arg14.view.readAt (Elt F) (Rect.unit (s := S128x512) ![0, 0] S128x512.size inb_S128x512_S128x512_0_0).toLoadRect (harg14.unread x12),
    arg15.view.readAt (Elt F) (Rect.unit (s := S1x512) ![0, 0] S1x512.size inb_S1x512_S1x512_0_0).toLoadRect (harg15.unread x13),
    arg16.view.readAt (Elt F) (Rect.unit (s := S1x1024) ![0, 0] S1x1024.size inb_S1x1024_S1x1024_0_0).toLoadRect (harg16.unread x14),
    arg17.view.readAt (Elt F) (Rect.unit (s := S1x1024) ![0, 0] S1x1024.size inb_S1x1024_S1x1024_0_0).toLoadRect (harg17.unread x15),
    arg18.view.readAt (Elt F) (Rect.unit (s := S1024x1024) ![0, 0] S1024x1024.size inb_S1024x1024_S1024x1024_0_0).toLoadRect (harg18.unread x16),
    arg19.view.readAt (Elt F) (Rect.unit (s := S1x1024) ![0, 0] S1x1024.size inb_S1x1024_S1x1024_0_0).toLoadRect (harg19.unread x17),
    arg20.view.readAt (Elt F) (Rect.unit (s := S1024x512) ![0, 0] S1024x512.size inb_S1024x512_S1024x512_0_0).toLoadRect (harg20.unread x18),
    arg21.view.readAt (Elt F) (Rect.unit (s := S1x512) ![0, 0] S1x512.size inb_S1x512_S1x512_0_0).toLoadRect (harg21.unread x19)⟩

/-- The sub-blocks as the run loads them. -/
def blkA : Blocks F :=
  ⟨four (arg2.view.readAt (Elt F) (Rect.unit (s := S1x1024x512) ![0, 0, 0] S1x256x512.size inb_S1x1024x512_S1x256x512_0_0_0).toLoadRect (harg2.unread x0))
      (arg2.view.readAt (Elt F) (Rect.unit (s := S1x1024x512) ![0, 256, 0] S1x256x512.size inb_S1x1024x512_S1x256x512_0_256_0).toLoadRect (harg2.unread x0))
      (arg2.view.readAt (Elt F) (Rect.unit (s := S1x1024x512) ![0, 512, 0] S1x256x512.size inb_S1x1024x512_S1x256x512_0_512_0).toLoadRect (harg2.unread x0))
      (arg2.view.readAt (Elt F) (Rect.unit (s := S1x1024x512) ![0, 768, 0] S1x256x512.size inb_S1x1024x512_S1x256x512_0_768_0).toLoadRect (harg2.unread x0)),
    four (arg3.view.readAt (Elt F) (Rect.unit (s := S1024x512) ![0, 0] S256x512.size inb_S1024x512_S256x512_0_0).toLoadRect (harg3.unread x1))
      (arg3.view.readAt (Elt F) (Rect.unit (s := S1024x512) ![256, 0] S256x512.size inb_S1024x512_S256x512_256_0).toLoadRect (harg3.unread x1))
      (arg3.view.readAt (Elt F) (Rect.unit (s := S1024x512) ![512, 0] S256x512.size inb_S1024x512_S256x512_512_0).toLoadRect (harg3.unread x1))
      (arg3.view.readAt (Elt F) (Rect.unit (s := S1024x512) ![768, 0] S256x512.size inb_S1024x512_S256x512_768_0).toLoadRect (harg3.unread x1)),
    four (arg4.view.readAt (Elt F) (Rect.unit (s := S1024x512) ![0, 0] S256x512.size inb_S1024x512_S256x512_0_0).toLoadRect (harg4.unread x2))
      (arg4.view.readAt (Elt F) (Rect.unit (s := S1024x512) ![256, 0] S256x512.size inb_S1024x512_S256x512_256_0).toLoadRect (harg4.unread x2))
      (arg4.view.readAt (Elt F) (Rect.unit (s := S1024x512) ![512, 0] S256x512.size inb_S1024x512_S256x512_512_0).toLoadRect (harg4.unread x2))
      (arg4.view.readAt (Elt F) (Rect.unit (s := S1024x512) ![768, 0] S256x512.size inb_S1024x512_S256x512_768_0).toLoadRect (harg4.unread x2)),
    firstPos i⟩

/-- What the run finds in the scratches. -/
def handA : Carried F :=
  ⟨arg23.view.readCov [⟨Rect.unit (s := S1x2176) ![0, 0] S1x2176.size inb_S1x2176_S1x2176_0_0, k1_pay4⟩] (Rect.unit (s := S1x2176) ![0, 0] S1x2176.size inb_S1x2176_S1x2176_0_0).toLoadRect,
    arg24.view.readCov [⟨Rect.unit (s := S256x128) ![0, 0] S256x128.size inb_S256x128_S256x128_0_0, k1_pay5⟩] (Rect.unit (s := S256x128) ![0, 0] S256x128.size inb_S256x128_S256x128_0_0).toLoadRect⟩

/-- The output window's stores: the rows of the four sub-blocks. -/
theorem outA : (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19).1 =
    [⟨Rect.unit (s := S1x1024x512) ![0, 768, 0] S1x256x512.size inb_S1x1024x512_S1x256x512_0_768_0, outAt (parA arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19) (blkA i arg2 harg2 arg3 harg3 arg4 harg4 x0 x1 x2) (handA (F := F) arg23 arg24) 3⟩,
     ⟨Rect.unit (s := S1x1024x512) ![0, 512, 0] S1x256x512.size inb_S1x1024x512_S1x256x512_0_512_0, outAt (parA arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19) (blkA i arg2 harg2 arg3 harg3 arg4 harg4 x0 x1 x2) (handA (F := F) arg23 arg24) 2⟩,
     ⟨Rect.unit (s := S1x1024x512) ![0, 256, 0] S1x256x512.size inb_S1x1024x512_S1x256x512_0_256_0, outAt (parA arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19) (blkA i arg2 harg2 arg3 harg3 arg4 harg4 x0 x1 x2) (handA (F := F) arg23 arg24) 1⟩,
     ⟨Rect.unit (s := S1x1024x512) ![0, 0, 0] S1x256x512.size inb_S1x1024x512_S1x256x512_0_0_0, outAt (parA arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19) (blkA i arg2 harg2 arg3 harg3 arg4 harg4 x0 x1 x2) (handA (F := F) arg23 arg24) 0⟩] := by
  sl_kernel_rfl

/-- The stores in the first scratch. -/
theorem carryA : ∃ L, (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19).2.1 =
    ⟨Rect.unit (s := S1x2176) ![0, 0] S1x2176.size inb_S1x2176_S1x2176_0_0, k1_pay2 (handed (parA arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19) (blkA i arg2 harg2 arg3 harg3 arg4 harg4 x0 x1 x2) (handA (F := F) arg23 arg24) 4).carry⟩ :: L :=
  ⟨[⟨Rect.unit (s := S1x2176) ![0, 0] S1x2176.size inb_S1x2176_S1x2176_0_0, k1_pay4⟩], by sl_kernel_rfl⟩

/-- The stores in the second scratch. -/
theorem stateA : ∃ L, (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19).2.2.1 =
    ⟨Rect.unit (s := S256x128) ![0, 0] S256x128.size inb_S256x128_S256x128_0_0, k1_pay3 (handed (parA arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19) (blkA i arg2 harg2 arg3 harg3 arg4 harg4 x0 x1 x2) (handA (F := F) arg23 arg24) 4).state⟩ :: L :=
  ⟨[⟨Rect.unit (s := S256x128) ![0, 0] S256x128.size inb_S256x128_S256x128_0_0, k1_pay5⟩], by sl_kernel_rfl⟩

end

end Cert.Phasor

end
-- ==== Proof.Kern.RunB.lean ====
/-
  The fused kernel's body at a grid point that goes on with a sequence, run from start to end.
-/
module

public import proofs.«01_k».proof.Proof.Kern.Start

@[expose] public section

set_option maxRecDepth 16384

noncomputable section

namespace Cert.Phasor

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 0 in
/-- The lists of what the body stores in the output window and in the two scratches (last store first), and that the body
    runs from its buffers to their holding exactly these stores. The lists are the ones that the execution finds. -/
def runB (c : Dev nD) (i : grid1.Coords)
  (arg2 : Memref sig .tc .vmem S1x1024x512 .f32) (harg2 : arg2.IsWhole) (arg3 : Memref sig .tc .vmem S1024x512 .f32) (harg3 : arg3.IsWhole) (arg4 : Memref sig .tc .vmem S1024x512 .f32) (harg4 : arg4.IsWhole)
  (arg5 : Memref sig .tc .vmem S1x1 .f32) (harg5 : arg5.IsWhole) (arg6 : Memref sig .tc .vmem S512x1920 .f32) (harg6 : arg6.IsWhole) (arg7 : Memref sig .tc .vmem S1x1920 .f32) (harg7 : arg7.IsWhole)
  (arg8 : Memref sig .tc .vmem S512x512 .f32) (harg8 : arg8.IsWhole) (arg9 : Memref sig .tc .vmem S1x512 .f32) (harg9 : arg9.IsWhole) (arg10 : Memref sig .tc .vmem S1024x512 .f32) (harg10 : arg10.IsWhole)
  (arg11 : Memref sig .tc .vmem S1x512 .f32) (harg11 : arg11.IsWhole) (arg12 : Memref sig .tc .vmem S512x128 .f32) (harg12 : arg12.IsWhole) (arg13 : Memref sig .tc .vmem S1x128 .f32) (harg13 : arg13.IsWhole)
  (arg14 : Memref sig .tc .vmem S128x512 .f32) (harg14 : arg14.IsWhole) (arg15 : Memref sig .tc .vmem S1x512 .f32) (harg15 : arg15.IsWhole) (arg16 : Memref sig .tc .vmem S1x1024 .f32) (harg16 : arg16.IsWhole)
  (arg17 : Memref sig .tc .vmem S1x1024 .f32) (harg17 : arg17.IsWhole) (arg18 : Memref sig .tc .vmem S1024x1024 .f32) (harg18 : arg18.IsWhole) (arg19 : Memref sig .tc .vmem S1x1024 .f32) (harg19 : arg19.IsWhole)
  (arg20 : Memref sig .tc .vmem S1024x512 .f32) (harg20 : arg20.IsWhole) (arg21 : Memref sig .tc .vmem S1x512 .f32) (harg21 : arg21.IsWhole)
  (arg22 : Memref sig .tc .vmem S1x1024x512 .f32) (harg22 : arg22.IsWhole)
  (arg23 : Memref sig .tc .vmem S1x2176 .f32) (harg23 : arg23.IsWhole) (arg24 : Memref sig .tc .vmem S256x128 .f32) (harg24 : arg24.IsWhole) (hc0 : ¬atFirst i)
  (x0 : Vec F S1x1024x512 .f32) (x1 : Vec F S1024x512 .f32) (x2 : Vec F S1024x512 .f32) (x3 : Vec F S1x1 .f32) (x4 : Vec F S512x1920 .f32)
  (x5 : Vec F S1x1920 .f32) (x6 : Vec F S512x512 .f32) (x7 : Vec F S1x512 .f32) (x8 : Vec F S1024x512 .f32) (x9 : Vec F S1x512 .f32)
  (x10 : Vec F S512x128 .f32) (x11 : Vec F S1x128 .f32) (x12 : Vec F S128x512 .f32) (x13 : Vec F S1x512 .f32) (x14 : Vec F S1x1024 .f32)
  (x15 : Vec F S1x1024 .f32) (x16 : Vec F S1024x1024 .f32) (x17 : Vec F S1x1024 .f32) (x18 : Vec F S1024x512 .f32) (x19 : Vec F S1x512 .f32) (xs0 : Vec F S1x2176 .f32) (xs1 : Vec F S256x128 .f32) :
    Σ' (L20 : List (View.Piece (Elt F) S1x1024x512 .f32)), Σ' (LS0 : List (View.Piece (Elt F) S1x2176 .f32)), { LS1 : List (View.Piece (Elt F) S256x128 .f32) //
      ∀ (E : Set ℕ) (K : PUnit → sProp 𝕄),
        iprop(inputs c arg2 arg3 arg4 arg5 arg6 arg7 arg8 arg9 arg10 arg11 arg12 arg13 arg14 arg15 arg16 arg17 arg18 arg19 arg20 arg21 x0 x1 x2 x3 x4 x5 x6 x7 x8 x9 x10 x11 x12 x13 x14 x15 x16 x17 x18 x19 ∗ (∃ d, owns (c : Thread nD τ) arg22 fullShare d) ∗ owns (c : Thread nD τ) arg23 fullShare xs0 ∗ owns (c : Thread nD τ) arg24 fullShare xs1
            ∗ (iprop(inputs c arg2 arg3 arg4 arg5 arg6 arg7 arg8 arg9 arg10 arg11 arg12 arg13 arg14 arg15 arg16 arg17 arg18 arg19 arg20 arg21 x0 x1 x2 x3 x4 x5 x6 x7 x8 x9 x10 x11 x12 x13 x14 x15 x16 x17 x18 x19
                ∗ (∃ f, arg22.view.loc (c : Thread nD τ) ↦[arg22.view.set]{fullShare} arg22.view.writes (Elt F) f L20)
                ∗ (∃ f, arg23.view.loc (c : Thread nD τ) ↦[arg23.view.set]{fullShare} arg23.view.writes (Elt F) f LS0)
                ∗ (∃ f, arg24.view.loc (c : Thread nD τ) ↦[arg24.view.set]{fullShare} arg24.view.writes (Elt F) f LS1)) -∗ K ⟨⟩))
          ⊢ wp frame (wpE (defs₀ (F := F)) Variants.none c none) E
              (cc1_phasor_block_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, fun E K => ?run⟩
  case run =>
    simp only [cc1_phasor_block_fused_eq_skeleton]; unfold cc1_phasor_block_fused_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton]
    unfold inputs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩⟩, ⟨%d20, %f20, -, H20⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg23.eq_unread hfs0; obtain rfl := harg24.eq_unread hfs1
    sl_exec (disch := first | sl_exact hc0)
    sl_step
    iapply Hk
    isplitl [H0 H1 H2 H3 H4 H5 H6 H7 H8 H9 H10 H11 H12 H13 H14 H15 H16 H17 H18 H19]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      isplitl [H13]
      · iexists _; isplitr; · ipureintro; exact harg15.read_unread _
        iexact H13
      isplitl [H14]
      · iexists _; isplitr; · ipureintro; exact harg16.read_unread _
        iexact H14
      isplitl [H15]
      · iexists _; isplitr; · ipureintro; exact harg17.read_unread _
        iexact H15
      isplitl [H16]
      · iexists _; isplitr; · ipureintro; exact harg18.read_unread _
        iexact H16
      isplitl [H17]
      · iexists _; isplitr; · ipureintro; exact harg19.read_unread _
        iexact H17
      isplitl [H18]
      · iexists _; isplitr; · ipureintro; exact harg20.read_unread _
        iexact H18
      iexists _; isplitr; · ipureintro; exact harg21.read_unread _
      iexact H19
    isplitl [H20]; · iexists _; iexact H20
    isplitl [HS0]; · iexists _; iexact HS0
    iexists _; iexact HS1

end Cert.Phasor

end
-- ==== Proof.Kern.StoresB.lean ====
/-
  The stores that the run finds, as the steps of Kern/Step.lean.
-/
module

public import proofs.«01_k».proof.Proof.Kern.RunB
public import proofs.«01_k».proof.Proof.Kern.Step

@[expose] public section

set_option maxRecDepth 16384

noncomputable section

namespace Cert.Phasor

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section

variable (c : Dev nD) (i : grid1.Coords)
  (arg2 : Memref sig .tc .vmem S1x1024x512 .f32) (harg2 : arg2.IsWhole) (arg3 : Memref sig .tc .vmem S1024x512 .f32) (harg3 : arg3.IsWhole) (arg4 : Memref sig .tc .vmem S1024x512 .f32) (harg4 : arg4.IsWhole)
  (arg5 : Memref sig .tc .vmem S1x1 .f32) (harg5 : arg5.IsWhole) (arg6 : Memref sig .tc .vmem S512x1920 .f32) (harg6 : arg6.IsWhole) (arg7 : Memref sig .tc .vmem S1x1920 .f32) (harg7 : arg7.IsWhole)
  (arg8 : Memref sig .tc .vmem S512x512 .f32) (harg8 : arg8.IsWhole) (arg9 : Memref sig .tc .vmem S1x512 .f32) (harg9 : arg9.IsWhole) (arg10 : Memref sig .tc .vmem S1024x512 .f32) (harg10 : arg10.IsWhole)
  (arg11 : Memref sig .tc .vmem S1x512 .f32) (harg11 : arg11.IsWhole) (arg12 : Memref sig .tc .vmem S512x128 .f32) (harg12 : arg12.IsWhole) (arg13 : Memref sig .tc .vmem S1x128 .f32) (harg13 : arg13.IsWhole)
  (arg14 : Memref sig .tc .vmem S128x512 .f32) (harg14 : arg14.IsWhole) (arg15 : Memref sig .tc .vmem S1x512 .f32) (harg15 : arg15.IsWhole) (arg16 : Memref sig .tc .vmem S1x1024 .f32) (harg16 : arg16.IsWhole)
  (arg17 : Memref sig .tc .vmem S1x1024 .f32) (harg17 : arg17.IsWhole) (arg18 : Memref sig .tc .vmem S1024x1024 .f32) (harg18 : arg18.IsWhole) (arg19 : Memref sig .tc .vmem S1x1024 .f32) (harg19 : arg19.IsWhole)
  (arg20 : Memref sig .tc .vmem S1024x512 .f32) (harg20 : arg20.IsWhole) (arg21 : Memref sig .tc .vmem S1x512 .f32) (harg21 : arg21.IsWhole)
  (arg22 : Memref sig .tc .vmem S1x1024x512 .f32) (harg22 : arg22.IsWhole)
  (arg23 : Memref sig .tc .vmem S1x2176 .f32) (harg23 : arg23.IsWhole) (arg24 : Memref sig .tc .vmem S256x128 .f32) (harg24 : arg24.IsWhole) (hc0 : ¬atFirst i)
  (x0 : Vec F S1x1024x512 .f32) (x1 : Vec F S1024x512 .f32) (x2 : Vec F S1024x512 .f32) (x3 : Vec F S1x1 .f32) (x4 : Vec F S512x1920 .f32)
  (x5 : Vec F S1x1920 .f32) (x6 : Vec F S512x512 .f32) (x7 : Vec F S1x512 .f32) (x8 : Vec F S1024x512 .f32) (x9 : Vec F S1x512 .f32)
  (x10 : Vec F S512x128 .f32) (x11 : Vec F S1x128 .f32) (x12 : Vec F S128x512 .f32) (x13 : Vec F S1x512 .f32) (x14 : Vec F S1x1024 .f32)
  (x15 : Vec F S1x1024 .f32) (x16 : Vec F S1024x1024 .f32) (x17 : Vec F S1x1024 .f32) (x18 : Vec F S1024x512 .f32) (x19 : Vec F S1x512 .f32) (xs0 : Vec F S1x2176 .f32) (xs1 : Vec F S256x128 .f32)

set_option maxHeartbeats 0

/-- The parameters as the run loads them. -/
def parB : Params F :=
  ⟨arg5.view.readAt (Elt F) (Rect.unit (s := S1x1) ![0, 0] S1x1.size inb_S1x1_S1x1_0_0).toLoadRect (harg5.unread x3),
    arg6.view.readAt (Elt F) (Rect.unit (s := S512x1920) ![0, 0] S512x1920.size inb_S512x1920_S512x1920_0_0).toLoadRect (harg6.unread x4),
    arg7.view.readAt (Elt F) (Rect.unit (s := S1x1920) ![0, 0] S1x1920.size inb_S1x1920_S1x1920_0_0).toLoadRect (harg7.unread x5),
    arg8.view.readAt (Elt F) (Rect.unit (s := S512x512) ![0, 0] S512x512.size inb_S512x512_S512x512_0_0).toLoadRect (harg8.unread x6),
    arg9.view.readAt (Elt F) (Rect.unit (s := S1x512) ![0, 0] S1x512.size inb_S1x512_S1x512_0_0).toLoadRect (harg9.unread x7),
    arg10.view.readAt (Elt F) (Rect.unit (s := S1024x512) ![0, 0] S1024x512.size inb_S1024x512_S1024x512_0_0).toLoadRect (harg10.unread x8),
    arg11.view.readAt (Elt F) (Rect.unit (s := S1x512) ![0, 0] S1x512.size inb_S1x512_S1x512_0_0).toLoadRect (harg11.unread x9),
    arg12.view.readAt (Elt F) (Rect.unit (s := S512x128) ![0, 0] S512x128.size inb_S512x128_S512x128_0_0).toLoadRect (harg12.unread x10),
    arg13.view.readAt (Elt F) (Rect.unit (s := S1x128) ![0, 0] S1x128.size inb_S1x128_S1x128_0_0).toLoadRect (harg13.unread x11),
    arg14.view.readAt (Elt F) (Rect.unit (s := S128x512) ![0, 0] S128x512.size inb_S128x512_S128x512_0_0).toLoadRect (harg14.unread x12),
    arg15.view.readAt (Elt F) (Rect.unit (s := S1x512) ![0, 0] S1x512.size inb_S1x512_S1x512_0_0).toLoadRect (harg15.unread x13),
    arg16.view.readAt (Elt F) (Rect.unit (s := S1x1024) ![0, 0] S1x1024.size inb_S1x1024_S1x1024_0_0).toLoadRect (harg16.unread x14),
    arg17.view.readAt (Elt F) (Rect.unit (s := S1x1024) ![0, 0] S1x1024.size inb_S1x1024_S1x1024_0_0).toLoadRect (harg17.unread x15),
    arg18.view.readAt (Elt F) (Rect.unit (s := S1024x1024) ![0, 0] S1024x1024.size inb_S1024x1024_S1024x1024_0_0).toLoadRect (harg18.unread x16),
    arg19.view.readAt (Elt F) (Rect.unit (s := S1x1024) ![0, 0] S1x1024.size inb_S1x1024_S1x1024_0_0).toLoadRect (harg19.unread x17),
    arg20.view.readAt (Elt F) (Rect.unit (s := S1024x512) ![0, 0] S1024x512.size inb_S1024x512_S1024x512_0_0).toLoadRect (harg20.unread x18),
    arg21.view.readAt (Elt F) (Rect.unit (s := S1x512) ![0, 0] S1x512.size inb_S1x512_S1x512_0_0).toLoadRect (harg21.unread x19)⟩

/-- The sub-blocks as the run loads them. -/
def blkB : Blocks F :=
  ⟨four (arg2.view.readAt (Elt F) (Rect.unit (s := S1x1024x512) ![0, 0, 0] S1x256x512.size inb_S1x1024x512_S1x256x512_0_0_0).toLoadRect (harg2.unread x0))
      (arg2.view.readAt (Elt F) (Rect.unit (s := S1x1024x512) ![0, 256, 0] S1x256x512.size inb_S1x1024x512_S1x256x512_0_256_0).toLoadRect (harg2.unread x0))
      (arg2.view.readAt (Elt F) (Rect.unit (s := S1x1024x512) ![0, 512, 0] S1x256x512.size inb_S1x1024x512_S1x256x512_0_512_0).toLoadRect (harg2.unread x0))
      (arg2.view.readAt (Elt F) (Rect.unit (s := S1x1024x512) ![0, 768, 0] S1x256x512.size inb_S1x1024x512_S1x256x512_0_768_0).toLoadRect (harg2.unread x0)),
    four (arg3.view.readAt (Elt F) (Rect.unit (s := S1024x512) ![0, 0] S256x512.size inb_S1024x512_S256x512_0_0).toLoadRect (harg3.unread x1))
      (arg3.view.readAt (Elt F) (Rect.unit (s := S1024x512) ![256, 0] S256x512.size inb_S1024x512_S256x512_256_0).toLoadRect (harg3.unread x1))
      (arg3.view.readAt (Elt F) (Rect.unit (s := S1024x512) ![512, 0] S256x512.size inb_S1024x512_S256x512_512_0).toLoadRect (harg3.unread x1))
      (arg3.view.readAt (Elt F) (Rect.unit (s := S1024x512) ![768, 0] S256x512.size inb_S1024x512_S256x512_768_0).toLoadRect (harg3.unread x1)),
    four (arg4.view.readAt (Elt F) (Rect.unit (s := S1024x512) ![0, 0] S256x512.size inb_S1024x512_S256x512_0_0).toLoadRect (harg4.unread x2))
      (arg4.view.readAt (Elt F) (Rect.unit (s := S1024x512) ![256, 0] S256x512.size inb_S1024x512_S256x512_256_0).toLoadRect (harg4.unread x2))
      (arg4.view.readAt (Elt F) (Rect.unit (s := S1024x512) ![512, 0] S256x512.size inb_S1024x512_S256x512_512_0).toLoadRect (harg4.unread x2))
      (arg4.view.readAt (Elt F) (Rect.unit (s := S1024x512) ![768, 0] S256x512.size inb_S1024x512_S256x512_768_0).toLoadRect (harg4.unread x2)),
    firstPos i⟩

/-- What the run finds in the scratches. -/
def handB : Carried F :=
  ⟨arg23.view.readAt (Elt F) (Rect.unit (s := S1x2176) ![0, 0] S1x2176.size inb_S1x2176_S1x2176_0_0).toLoadRect (harg23.unread xs0),
    arg24.view.readAt (Elt F) (Rect.unit (s := S256x128) ![0, 0] S256x128.size inb_S256x128_S256x128_0_0).toLoadRect (harg24.unread xs1)⟩

/-- The output window's stores: the rows of the four sub-blocks. -/
theorem outB : (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xs0 xs1).1 =
    [⟨Rect.unit (s := S1x1024x512) ![0, 768, 0] S1x256x512.size inb_S1x1024x512_S1x256x512_0_768_0, outAt (parB arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19) (blkB i arg2 harg2 arg3 harg3 arg4 harg4 x0 x1 x2) (handB (F := F) arg23 harg23 arg24 harg24 xs0 xs1) 3⟩,
     ⟨Rect.unit (s := S1x1024x512) ![0, 512, 0] S1x256x512.size inb_S1x1024x512_S1x256x512_0_512_0, outAt (parB arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19) (blkB i arg2 harg2 arg3 harg3 arg4 harg4 x0 x1 x2) (handB (F := F) arg23 harg23 arg24 harg24 xs0 xs1) 2⟩,
     ⟨Rect.unit (s := S1x1024x512) ![0, 256, 0] S1x256x512.size inb_S1x1024x512_S1x256x512_0_256_0, outAt (parB arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19) (blkB i arg2 harg2 arg3 harg3 arg4 harg4 x0 x1 x2) (handB (F := F) arg23 harg23 arg24 harg24 xs0 xs1) 1⟩,
     ⟨Rect.unit (s := S1x1024x512) ![0, 0, 0] S1x256x512.size inb_S1x1024x512_S1x256x512_0_0_0, outAt (parB arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19) (blkB i arg2 harg2 arg3 harg3 arg4 harg4 x0 x1 x2) (handB (F := F) arg23 harg23 arg24 harg24 xs0 xs1) 0⟩] := by
  sl_kernel_rfl

/-- The stores in the first scratch. -/
theorem carryB : ∃ L, (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xs0 xs1).2.1 =
    ⟨Rect.unit (s := S1x2176) ![0, 0] S1x2176.size inb_S1x2176_S1x2176_0_0, k1_pay2 (handed (parB arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19) (blkB i arg2 harg2 arg3 harg3 arg4 harg4 x0 x1 x2) (handB (F := F) arg23 harg23 arg24 harg24 xs0 xs1) 4).carry⟩ :: L :=
  ⟨[], by sl_kernel_rfl⟩

/-- The stores in the second scratch. -/
theorem stateB : ∃ L, (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xs0 xs1).2.2.1 =
    ⟨Rect.unit (s := S256x128) ![0, 0] S256x128.size inb_S256x128_S256x128_0_0, k1_pay3 (handed (parB arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19) (blkB i arg2 harg2 arg3 harg3 arg4 harg4 x0 x1 x2) (handB (F := F) arg23 harg23 arg24 harg24 xs0 xs1) 4).state⟩ :: L :=
  ⟨[], by sl_kernel_rfl⟩

end

end Cert.Phasor

end
-- ==== Proof.Kern.Body.lean ====
/-
  One grid point of the fused kernel: from the blocks it reads and what it is handed, to the block it leaves and what it hands on.
-/
module

public import proofs.«01_k».proof.Proof.Kern.StoresA
public import proofs.«01_k».proof.Proof.Kern.StoresB
public import Idealize.ShloMosaic.Lib.VecWindow
public import Idealize.ShloMosaic.Lib.Pipeline.Value
public import Idealize.ShloMosaic.Lib.Pipeline.FrameBody

@[expose] public section

set_option maxRecDepth 16384

noncomputable section

namespace Cert.Phasor

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The sub-blocks of a grid point, from the blocks that its first three windows hold. -/
def blocksOf (i : grid1.Coords) (x0 : Vec F S1x1024x512 .f32) (x1 : Vec F S1024x512 .f32) (x2 : Vec F S1024x512 .f32) : Blocks F :=
  ⟨four
      (View.ld x0 (Rect.unit (s := S1x1024x512) ![0, 0, 0] S1x256x512.size inb_S1x1024x512_S1x256x512_0_0_0))
      (View.ld x0 (Rect.unit (s := S1x1024x512) ![0, 256, 0] S1x256x512.size inb_S1x1024x512_S1x256x512_0_256_0))
      (View.ld x0 (Rect.unit (s := S1x1024x512) ![0, 512, 0] S1x256x512.size inb_S1x1024x512_S1x256x512_0_512_0))
      (View.ld x0 (Rect.unit (s := S1x1024x512) ![0, 768, 0] S1x256x512.size inb_S1x1024x512_S1x256x512_0_768_0)),
    quarters x1, quarters x2, firstPos i⟩
where
  /-- Four times 256 rows of a table's block. -/
  quarters (y : Vec F S1024x512 .f32) : ℕ → Vec F S256x512 .f32 :=
    four
      (View.ld y (Rect.unit (s := S1024x512) ![0, 0] S256x512.size inb_S1024x512_S256x512_0_0))
      (View.ld y (Rect.unit (s := S1024x512) ![256, 0] S256x512.size inb_S1024x512_S256x512_256_0))
      (View.ld y (Rect.unit (s := S1024x512) ![512, 0] S256x512.size inb_S1024x512_S256x512_512_0))
      (View.ld y (Rect.unit (s := S1024x512) ![768, 0] S256x512.size inb_S1024x512_S256x512_768_0))

/-- The four stores of a grid point in its output window. -/
def outStores (w : Params F) (b : Blocks F) (h : Carried F) : List (View.Piece (Elt F) S1x1024x512 .f32) :=
  [⟨Rect.unit (s := S1x1024x512) ![0, 768, 0] S1x256x512.size inb_S1x1024x512_S1x256x512_0_768_0, outAt w b h 3⟩,
   ⟨Rect.unit (s := S1x1024x512) ![0, 512, 0] S1x256x512.size inb_S1x1024x512_S1x256x512_0_512_0, outAt w b h 2⟩,
   ⟨Rect.unit (s := S1x1024x512) ![0, 256, 0] S1x256x512.size inb_S1x1024x512_S1x256x512_0_256_0, outAt w b h 1⟩,
   ⟨Rect.unit (s := S1x1024x512) ![0, 0, 0] S1x256x512.size inb_S1x1024x512_S1x256x512_0_0_0, outAt w b h 0⟩]

/-- The block that a grid point leaves. -/
def outBlock (w : Params F) (b : Blocks F) (h : Carried F) : Vec F S1x1024x512 .f32 := View.canon (outStores w b h)

/-- The four stores fill the window. -/
theorem outStores_cover (w : Params F) (b : Blocks F) (h : Carried F) (y : S1x1024x512.Idx) : ∃ p ∈ outStores w b h, y ∈ p.1.set :=
  View.cover_of_tiledL (outStores w b h) S1x256x512.size (by sl_kernel_rfl) y

/-- A row re-shaped to its own shape is the row. -/
theorem keep_carry (v : FVec F S1x2176 .f32) : k1_pay2 v = v := shapeCast_self _ _
theorem keep_state (v : FVec F S256x128 .f32) : k1_pay3 v = v := shapeCast_self _ _

/-- A load of part of a buffer held whole reads that part of its contents, -/
theorem load_part {s : Shape} {sp : Space} (v : Memref sig .tc sp s .f32) (hv : v.IsWhole) (x : Vec F s .f32) (r : Rect s) :
    v.view.readAt (Elt F) r.toLoadRect (hv.unread x) = View.ld x r :=
  congrArg (fun z => View.ld z r) (hv.read_unread x)

/-- and a load of all of it reads its contents. -/
theorem load_all {s : Shape} {sp : Space} (v : Memref sig .tc sp s .f32) (hv : v.IsWhole) (x : Vec F s .f32) {off : Fin s.rank → ℕ}
    (inb : ∀ a, off a + s.size a ≤ s.size a) :
    v.view.readAt (Elt F) (Rect.unit off s.size inb).toLoadRect (hv.unread x) = x :=
  (View.readAt_full v.view _ inb).trans (hv.read_unread x)

set_option maxHeartbeats 0 in
/-- The body at a grid point that starts a sequence. -/
theorem bodyA (c : Dev nD) (i : grid1.Coords)
  (arg2 : Memref sig .tc .vmem S1x1024x512 .f32) (harg2 : arg2.IsWhole) (arg3 : Memref sig .tc .vmem S1024x512 .f32) (harg3 : arg3.IsWhole) (arg4 : Memref sig .tc .vmem S1024x512 .f32) (harg4 : arg4.IsWhole)
  (arg5 : Memref sig .tc .vmem S1x1 .f32) (harg5 : arg5.IsWhole) (arg6 : Memref sig .tc .vmem S512x1920 .f32) (harg6 : arg6.IsWhole) (arg7 : Memref sig .tc .vmem S1x1920 .f32) (harg7 : arg7.IsWhole)
  (arg8 : Memref sig .tc .vmem S512x512 .f32) (harg8 : arg8.IsWhole) (arg9 : Memref sig .tc .vmem S1x512 .f32) (harg9 : arg9.IsWhole) (arg10 : Memref sig .tc .vmem S1024x512 .f32) (harg10 : arg10.IsWhole)
  (arg11 : Memref sig .tc .vmem S1x512 .f32) (harg11 : arg11.IsWhole) (arg12 : Memref sig .tc .vmem S512x128 .f32) (harg12 : arg12.IsWhole) (arg13 : Memref sig .tc .vmem S1x128 .f32) (harg13 : arg13.IsWhole)
  (arg14 : Memref sig .tc .vmem S128x512 .f32) (harg14 : arg14.IsWhole) (arg15 : Memref sig .tc .vmem S1x512 .f32) (harg15 : arg15.IsWhole) (arg16 : Memref sig .tc .vmem S1x1024 .f32) (harg16 : arg16.IsWhole)
  (arg17 : Memref sig .tc .vmem S1x1024 .f32) (harg17 : arg17.IsWhole) (arg18 : Memref sig .tc .vmem S1024x1024 .f32) (harg18 : arg18.IsWhole) (arg19 : Memref sig .tc .vmem S1x1024 .f32) (harg19 : arg19.IsWhole)
  (arg20 : Memref sig .tc .vmem S1024x512 .f32) (harg20 : arg20.IsWhole) (arg21 : Memref sig .tc .vmem S1x512 .f32) (harg21 : arg21.IsWhole)
  (arg22 : Memref sig .tc .vmem S1x1024x512 .f32) (harg22 : arg22.IsWhole)
  (arg23 : Memref sig .tc .vmem S1x2176 .f32) (harg23 : arg23.IsWhole) (arg24 : Memref sig .tc .vmem S256x128 .f32) (harg24 : arg24.IsWhole) (hc0 : atFirst i)
  (x0 : Vec F S1x1024x512 .f32) (x1 : Vec F S1024x512 .f32) (x2 : Vec F S1024x512 .f32) (x3 : Vec F S1x1 .f32) (x4 : Vec F S512x1920 .f32)
  (x5 : Vec F S1x1920 .f32) (x6 : Vec F S512x512 .f32) (x7 : Vec F S1x512 .f32) (x8 : Vec F S1024x512 .f32) (x9 : Vec F S1x512 .f32)
  (x10 : Vec F S512x128 .f32) (x11 : Vec F S1x128 .f32) (x12 : Vec F S128x512 .f32) (x13 : Vec F S1x512 .f32) (x14 : Vec F S1x1024 .f32)
  (x15 : Vec F S1x1024 .f32) (x16 : Vec F S1024x1024 .f32) (x17 : Vec F S1x1024 .f32) (x18 : Vec F S1024x512 .f32) (x19 : Vec F S1x512 .f32) (E : Set ℕ) (K : PUnit → sProp 𝕄) :
    iprop(inputs c arg2 arg3 arg4 arg5 arg6 arg7 arg8 arg9 arg10 arg11 arg12 arg13 arg14 arg15 arg16 arg17 arg18 arg19 arg20 arg21 x0 x1 x2 x3 x4 x5 x6 x7 x8 x9 x10 x11 x12 x13 x14 x15 x16 x17 x18 x19 ∗ (∃ d, owns (c : Thread nD τ) arg22 fullShare d) ∗ (∃ d, owns (c : Thread nD τ) arg23 fullShare d) ∗ (∃ d, owns (c : Thread nD τ) arg24 fullShare d)
        ∗ (iprop(inputs c arg2 arg3 arg4 arg5 arg6 arg7 arg8 arg9 arg10 arg11 arg12 arg13 arg14 arg15 arg16 arg17 arg18 arg19 arg20 arg21 x0 x1 x2 x3 x4 x5 x6 x7 x8 x9 x10 x11 x12 x13 x14 x15 x16 x17 x18 x19
            ∗ owns (c : Thread nD τ) arg22 fullShare (outBlock ⟨x3, x4, x5, x6, x7, x8, x9, x10, x11, x12, x13, x14, x15, x16, x17, x18, x19⟩ (blocksOf i x0 x1 x2) Carried.zero)
            ∗ owns (c : Thread nD τ) arg23 fullShare (handed ⟨x3, x4, x5, x6, x7, x8, x9, x10, x11, x12, x13, x14, x15, x16, x17, x18, x19⟩ (blocksOf i x0 x1 x2) Carried.zero 4).carry
            ∗ owns (c : Thread nD τ) arg24 fullShare (handed ⟨x3, x4, x5, x6, x7, x8, x9, x10, x11, x12, x13, x14, x15, x16, x17, x18, x19⟩ (blocksOf i x0 x1 x2) Carried.zero 4).state) -∗ K ⟨⟩))
      ⊢ wp frame (wpE (defs₀ (F := F)) Variants.none c none) E (cc1_phasor_block_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  have hP : parA arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19 = ⟨x3, x4, x5, x6, x7, x8, x9, x10, x11, x12, x13, x14, x15, x16, x17, x18, x19⟩ := by unfold parA; congr 1 <;> exact load_all _ _ _ _
  have hB : blkA i arg2 harg2 arg3 harg3 arg4 harg4 x0 x1 x2 = blocksOf i x0 x1 x2 := by simp only [blkA, load_part]; rfl
  have hH : handA (F := F) arg23 arg24 = Carried.zero := by unfold handA Carried.zero; congr 1 <;> exact View.readCov_full _ _ _ _ _
  have ho := outA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19
  obtain ⟨L0, hs0⟩ := carryA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19
  obtain ⟨L1, hs1⟩ := stateA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19
  rw [hP, hB, hH] at ho hs0 hs1
  generalize runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 = r at ho hs0 hs1
  obtain ⟨L20, LS0, LS1, run⟩ := r
  dsimp only at ho hs0 hs1
  subst ho hs0 hs1
  refine BIBase.Entails.trans ?_ (run E K)
  iintro ⟨HI, HO, HS0, HS1, Hk⟩
  isplitl [HI]; · iexact HI
  isplitl [HO]; · iexact HO
  isplitl [HS0]; · iexact HS0
  isplitl [HS1]; · iexact HS1
  iintro ⟨HI, ⟨%e20, HO⟩, ⟨%e0, HS0⟩, ⟨%e1, HS1⟩⟩
  iapply Hk
  isplitl [HI]; · iexact HI
  isplitl [HO]
  · unfold owns; iexists _; isplitr
    swap; · iexact HO
    ipureintro; exact View.read_writes_eq_canon _ _ _ (outStores_cover _ _ _)
  isplitl [HS0]
  · unfold owns; iexists _; isplitr
    swap; · iexact HS0
    ipureintro; exact (View.read_writes_full _ _ _ _ _).trans (keep_carry _)
  unfold owns; iexists _; isplitr
  swap; · iexact HS1
  ipureintro; exact (View.read_writes_full _ _ _ _ _).trans (keep_state _)

set_option maxHeartbeats 0 in
/-- The body at a grid point that goes on with a sequence. -/
theorem bodyB (c : Dev nD) (i : grid1.Coords)
  (arg2 : Memref sig .tc .vmem S1x1024x512 .f32) (harg2 : arg2.IsWhole) (arg3 : Memref sig .tc .vmem S1024x512 .f32) (harg3 : arg3.IsWhole) (arg4 : Memref sig .tc .vmem S1024x512 .f32) (harg4 : arg4.IsWhole)
  (arg5 : Memref sig .tc .vmem S1x1 .f32) (harg5 : arg5.IsWhole) (arg6 : Memref sig .tc .vmem S512x1920 .f32) (harg6 : arg6.IsWhole) (arg7 : Memref sig .tc .vmem S1x1920 .f32) (harg7 : arg7.IsWhole)
  (arg8 : Memref sig .tc .vmem S512x512 .f32) (harg8 : arg8.IsWhole) (arg9 : Memref sig .tc .vmem S1x512 .f32) (harg9 : arg9.IsWhole) (arg10 : Memref sig .tc .vmem S1024x512 .f32) (harg10 : arg10.IsWhole)
  (arg11 : Memref sig .tc .vmem S1x512 .f32) (harg11 : arg11.IsWhole) (arg12 : Memref sig .tc .vmem S512x128 .f32) (harg12 : arg12.IsWhole) (arg13 : Memref sig .tc .vmem S1x128 .f32) (harg13 : arg13.IsWhole)
  (arg14 : Memref sig .tc .vmem S128x512 .f32) (harg14 : arg14.IsWhole) (arg15 : Memref sig .tc .vmem S1x512 .f32) (harg15 : arg15.IsWhole) (arg16 : Memref sig .tc .vmem S1x1024 .f32) (harg16 : arg16.IsWhole)
  (arg17 : Memref sig .tc .vmem S1x1024 .f32) (harg17 : arg17.IsWhole) (arg18 : Memref sig .tc .vmem S1024x1024 .f32) (harg18 : arg18.IsWhole) (arg19 : Memref sig .tc .vmem S1x1024 .f32) (harg19 : arg19.IsWhole)
  (arg20 : Memref sig .tc .vmem S1024x512 .f32) (harg20 : arg20.IsWhole) (arg21 : Memref sig .tc .vmem S1x512 .f32) (harg21 : arg21.IsWhole)
  (arg22 : Memref sig .tc .vmem S1x1024x512 .f32) (harg22 : arg22.IsWhole)
  (arg23 : Memref sig .tc .vmem S1x2176 .f32) (harg23 : arg23.IsWhole) (arg24 : Memref sig .tc .vmem S256x128 .f32) (harg24 : arg24.IsWhole) (hc0 : ¬atFirst i)
  (x0 : Vec F S1x1024x512 .f32) (x1 : Vec F S1024x512 .f32) (x2 : Vec F S1024x512 .f32) (x3 : Vec F S1x1 .f32) (x4 : Vec F S512x1920 .f32)
  (x5 : Vec F S1x1920 .f32) (x6 : Vec F S512x512 .f32) (x7 : Vec F S1x512 .f32) (x8 : Vec F S1024x512 .f32) (x9 : Vec F S1x512 .f32)
  (x10 : Vec F S512x128 .f32) (x11 : Vec F S1x128 .f32) (x12 : Vec F S128x512 .f32) (x13 : Vec F S1x512 .f32) (x14 : Vec F S1x1024 .f32)
  (x15 : Vec F S1x1024 .f32) (x16 : Vec F S1024x1024 .f32) (x17 : Vec F S1x1024 .f32) (x18 : Vec F S1024x512 .f32) (x19 : Vec F S1x512 .f32) (xs0 : Vec F S1x2176 .f32) (xs1 : Vec F S256x128 .f32) (E : Set ℕ) (K : PUnit → sProp 𝕄) :
    iprop(inputs c arg2 arg3 arg4 arg5 arg6 arg7 arg8 arg9 arg10 arg11 arg12 arg13 arg14 arg15 arg16 arg17 arg18 arg19 arg20 arg21 x0 x1 x2 x3 x4 x5 x6 x7 x8 x9 x10 x11 x12 x13 x14 x15 x16 x17 x18 x19 ∗ (∃ d, owns (c : Thread nD τ) arg22 fullShare d) ∗ owns (c : Thread nD τ) arg23 fullShare xs0 ∗ owns (c : Thread nD τ) arg24 fullShare xs1
        ∗ (iprop(inputs c arg2 arg3 arg4 arg5 arg6 arg7 arg8 arg9 arg10 arg11 arg12 arg13 arg14 arg15 arg16 arg17 arg18 arg19 arg20 arg21 x0 x1 x2 x3 x4 x5 x6 x7 x8 x9 x10 x11 x12 x13 x14 x15 x16 x17 x18 x19
            ∗ owns (c : Thread nD τ) arg22 fullShare (outBlock ⟨x3, x4, x5, x6, x7, x8, x9, x10, x11, x12, x13, x14, x15, x16, x17, x18, x19⟩ (blocksOf i x0 x1 x2) ⟨xs0, xs1⟩)
            ∗ owns (c : Thread nD τ) arg23 fullShare (handed ⟨x3, x4, x5, x6, x7, x8, x9, x10, x11, x12, x13, x14, x15, x16, x17, x18, x19⟩ (blocksOf i x0 x1 x2) ⟨xs0, xs1⟩ 4).carry
            ∗ owns (c : Thread nD τ) arg24 fullShare (handed ⟨x3, x4, x5, x6, x7, x8, x9, x10, x11, x12, x13, x14, x15, x16, x17, x18, x19⟩ (blocksOf i x0 x1 x2) ⟨xs0, xs1⟩ 4).state) -∗ K ⟨⟩))
      ⊢ wp frame (wpE (defs₀ (F := F)) Variants.none c none) E (cc1_phasor_block_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  have hP : parB arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x3 x4 x5 x6 x7 x8 x9 x10 x11 x12 x13 x14 x15 x16 x17 x18 x19 = ⟨x3, x4, x5, x6, x7, x8, x9, x10, x11, x12, x13, x14, x15, x16, x17, x18, x19⟩ := by unfold parB; congr 1 <;> exact load_all _ _ _ _
  have hB : blkB i arg2 harg2 arg3 harg3 arg4 harg4 x0 x1 x2 = blocksOf i x0 x1 x2 := by simp only [blkB, load_part]; rfl
  have hH : handB (F := F) arg23 harg23 arg24 harg24 xs0 xs1 = ⟨xs0, xs1⟩ := by unfold handB; congr 1 <;> exact load_all _ _ _ _
  have ho := outB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xs0 xs1
  obtain ⟨L0, hs0⟩ := carryB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xs0 xs1
  obtain ⟨L1, hs1⟩ := stateB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xs0 xs1
  rw [hP, hB, hH] at ho hs0 hs1
  generalize runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 x12 x13 x14 x15 x16 x17 x18 x19 xs0 xs1 = r at ho hs0 hs1
  obtain ⟨L20, LS0, LS1, run⟩ := r
  dsimp only at ho hs0 hs1
  subst ho hs0 hs1
  refine BIBase.Entails.trans ?_ (run E K)
  iintro ⟨HI, HO, HS0, HS1, Hk⟩
  isplitl [HI]; · iexact HI
  isplitl [HO]; · iexact HO
  isplitl [HS0]; · iexact HS0
  isplitl [HS1]; · iexact HS1
  iintro ⟨HI, ⟨%e20, HO⟩, ⟨%e0, HS0⟩, ⟨%e1, HS1⟩⟩
  iapply Hk
  isplitl [HI]; · iexact HI
  isplitl [HO]
  · unfold owns; iexists _; isplitr
    swap; · iexact HO
    ipureintro; exact View.read_writes_eq_canon _ _ _ (outStores_cover _ _ _)
  isplitl [HS0]
  · unfold owns; iexists _; isplitr
    swap; · iexact HS0
    ipureintro; exact (View.read_writes_full _ _ _ _ _).trans (keep_carry _)
  unfold owns; iexists _; isplitr
  swap; · iexact HS1
  ipureintro; exact (View.read_writes_full _ _ _ _ _).trans (keep_state _)

end Cert.Phasor

end
-- ==== Proof.Kern.Region1.lean ====
/-
  The second kernel, point by point.  Its two scratches carry the sums from a point to the one after it.
-/
module

public import proofs.«01_k».proof.Proof.Kern.Body
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Phasor

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What window `w` of the second kernel holds at point `t`. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A sequence is started at every fourth point. -/
theorem atFirst_iff (t : Fin cfg1.N) : atFirst (grid1.coords t) ↔ t.val % 4 = 0 := by
  have ht : t.val < 16 := Nat.lt_of_lt_of_eq t.isLt N_1
  have e1 : (grid1.coords t 1).val = t.val / 1 % 4 := Pipeline.Grid.coords_val t 1 (by decide) rfl
  simp only [atFirst, e1]
  word_cmp

/-- The parameters, as point `t` finds them. -/
noncomputable def paramsAt (c : Dev nD) (t : Fin cfg1.N) : Params F :=
  ⟨iblk1 V c 3 t, iblk1 V c 4 t, iblk1 V c 5 t, iblk1 V c 6 t, iblk1 V c 7 t, iblk1 V c 8 t, iblk1 V c 9 t, iblk1 V c 10 t, iblk1 V c 11 t, iblk1 V c 12 t, iblk1 V c 13 t, iblk1 V c 14 t, iblk1 V c 15 t, iblk1 V c 16 t, iblk1 V c 17 t, iblk1 V c 18 t, iblk1 V c 19 t⟩

/-- The sub-blocks of point `t`. -/
noncomputable def blocksAt (c : Dev nD) (t : Fin cfg1.N) : Blocks F := blocksOf (grid1.coords t) (iblk1 V c 0 t) (iblk1 V c 1 t) (iblk1 V c 2 t)

/-- What point `n` starts from: zeros where a sequence starts, what the point before it leaves elsewhere. -/
noncomputable def handAt (c : Dev nD) : (n : ℕ) → n < cfg1.N → Carried F
  | 0, _ => Carried.zero
  | n + 1, h => if (n + 1) % 4 = 0 then Carried.zero else handed (paramsAt V c ⟨n, Nat.lt_of_succ_lt h⟩) (blocksAt V c ⟨n, Nat.lt_of_succ_lt h⟩) (handAt c n (Nat.lt_of_succ_lt h)) 4

/-- What point `n` leaves in the scratches. -/
noncomputable def leftAt (c : Dev nD) (n : ℕ) (h : n < cfg1.N) : Carried F := handed (paramsAt V c ⟨n, h⟩) (blocksAt V c ⟨n, h⟩) (handAt V c n h) 4

theorem handAt_first (c : Dev nD) (n : ℕ) (h : n < cfg1.N) (h0 : n % 4 = 0) : handAt V c n h = Carried.zero := by
  cases n with
  | zero => rfl
  | succ n => exact if_pos h0

theorem handAt_next (c : Dev nD) (n : ℕ) (h : n + 1 < cfg1.N) (h0 : ¬(n + 1) % 4 = 0) : handAt V c (n + 1) h = leftAt V c n (Nat.lt_of_succ_lt h) := if_neg h0

/-- The scratches. -/
abbrev scM1_0 : Memref sig .tc .vmem S1x2176 .f32 := Memref.whole cc1_scratch0
abbrev scM1_1 : Memref sig .tc .vmem S256x128 .f32 := Memref.whole cc1_scratch1

/-- The first kernel's staging buffers, which the second one does not touch. -/
noncomputable def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- What the launch hands the second kernel: those, the scratches, and the generator's register. -/
theorem PhiA1_split (c : Dev nD) : (Pipeline.ΦA spec1 c : sProp 𝕄)
    ⊢ iprop(others c ∗ (∃ d, owns (c : Thread nD τ) scM1_0 fullShare d) ∗ (∃ d, owns (c : Thread nD τ) scM1_1 fullShare d) ∗ (∃ r, prngReg c r)) := by
  unfold Pipeline.ΦA others; rw [scopedRest1_eq]; simp only [scM1_0, scM1_1, owns_whole]
  iintro ⟨⟨H0, H1, H2, H3, H4, H5, HS0, HS1⟩, Hg⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HS0]; · iexact HS0
  isplitl [HS1]; · iexact HS1
  iexact Hg

/-- And back. -/
theorem PhiA1_join (c : Dev nD) :
    iprop(others c ∗ (∃ d, owns (c : Thread nD τ) scM1_0 fullShare d) ∗ (∃ d, owns (c : Thread nD τ) scM1_1 fullShare d) ∗ (∃ r, prngReg c r))
      ⊢ (Pipeline.ΦA spec1 c : sProp 𝕄) := by
  unfold Pipeline.ΦA others; rw [scopedRest1_eq]; simp only [scM1_0, scM1_1, owns_whole]
  iintro ⟨⟨H0, H1, H2, H3, H4, H5⟩, HS0, HS1, Hg⟩
  isplitl [H0 H1 H2 H3 H4 H5 HS0 HS1]
  · isplitl [H0]; · iexact H0
    isplitl [H1]; · iexact H1
    isplitl [H2]; · iexact H2
    isplitl [H3]; · iexact H3
    isplitl [H4]; · iexact H4
    isplitl [H5]; · iexact H5
    isplitl [HS0]; · iexact HS0
    iexact HS1
  iexact Hg

/-- What holds between two points: the scratches at what the point before leaves. -/
noncomputable def between (c : Dev nD) : (n : ℕ) → n ≤ cfg1.N → sProp 𝕄
  | 0, _ => Pipeline.ΦA spec1 c
  | n + 1, h => iprop(others c ∗ owns (c : Thread nD τ) scM1_0 fullShare (leftAt V c n h).carry ∗ owns (c : Thread nD τ) scM1_1 fullShare (leftAt V c n h).state ∗ (∃ r, prngReg c r))

/-- The data of the second kernel's pipeline. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => outBlock (paramsAt V c t) (blocksAt V c t) (handAt V c t.val t.isLt)
    | ⟨_ + 21, h⟩ => absurd h (Nat.not_lt.2 (Nat.le_add_left _ _))
  Φ t := between V c t.val (Nat.le_of_lt_succ t.isLt)
  q _ := fullShare
  owed _ := 0

theorem A_eq1 (c : Dev nD) (w : Fin cfg1.W) : (dat1 V c).A w = V c (Pipeline.arrRef spec1 w) := by dsimp only [dat1]
theorem after1_20 (c : Dev nD) (t : Fin cfg1.N) : (dat1 V c).after 20 t = outBlock (paramsAt V c t) (blocksAt V c t) (handAt V c t.val t.isLt) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]

/-- The twenty inputs hold their blocks when the body starts. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl)
    (fun t => by rw [after1_12]; unfold Dat.blockOf iblk1; rw [A_eq1]; try rfl) t d).trans
    (by unfold Dat.fetched Dat.blockOf iblk1; rw [A_eq1]; try rfl)
theorem before1_13 (c : Dev nD) (t : Fin cfg1.N) (d) : (dat1 V c).before 13 t d = iblk1 V c 13 t :=
  ((dat1 V c).before_in_eq_fetched 13 rfl (fun _ => rfl) (fun _ _ _ => rfl)
    (fun t => by rw [after1_13]; unfold Dat.blockOf iblk1; rw [A_eq1]; try rfl) t d).trans
    (by unfold Dat.fetched Dat.blockOf iblk1; rw [A_eq1]; try rfl)
theorem before1_14 (c : Dev nD) (t : Fin cfg1.N) (d) : (dat1 V c).before 14 t d = iblk1 V c 14 t :=
  ((dat1 V c).before_in_eq_fetched 14 rfl (fun _ => rfl) (fun _ _ _ => rfl)
    (fun t => by rw [after1_14]; unfold Dat.blockOf iblk1; rw [A_eq1]; try rfl) t d).trans
    (by unfold Dat.fetched Dat.blockOf iblk1; rw [A_eq1]; try rfl)
theorem before1_15 (c : Dev nD) (t : Fin cfg1.N) (d) : (dat1 V c).before 15 t d = iblk1 V c 15 t :=
  ((dat1 V c).before_in_eq_fetched 15 rfl (fun _ => rfl) (fun _ _ _ => rfl)
    (fun t => by rw [after1_15]; unfold Dat.blockOf iblk1; rw [A_eq1]; try rfl) t d).trans
    (by unfold Dat.fetched Dat.blockOf iblk1; rw [A_eq1]; try rfl)
theorem before1_16 (c : Dev nD) (t : Fin cfg1.N) (d) : (dat1 V c).before 16 t d = iblk1 V c 16 t :=
  ((dat1 V c).before_in_eq_fetched 16 rfl (fun _ => rfl) (fun _ _ _ => rfl)
    (fun t => by rw [after1_16]; unfold Dat.blockOf iblk1; rw [A_eq1]; try rfl) t d).trans
    (by unfold Dat.fetched Dat.blockOf iblk1; rw [A_eq1]; try rfl)
theorem before1_17 (c : Dev nD) (t : Fin cfg1.N) (d) : (dat1 V c).before 17 t d = iblk1 V c 17 t :=
  ((dat1 V c).before_in_eq_fetched 17 rfl (fun _ => rfl) (fun _ _ _ => rfl)
    (fun t => by rw [after1_17]; unfold Dat.blockOf iblk1; rw [A_eq1]; try rfl) t d).trans
    (by unfold Dat.fetched Dat.blockOf iblk1; rw [A_eq1]; try rfl)
theorem before1_18 (c : Dev nD) (t : Fin cfg1.N) (d) : (dat1 V c).before 18 t d = iblk1 V c 18 t :=
  ((dat1 V c).before_in_eq_fetched 18 rfl (fun _ => rfl) (fun _ _ _ => rfl)
    (fun t => by rw [after1_18]; unfold Dat.blockOf iblk1; rw [A_eq1]; try rfl) t d).trans
    (by unfold Dat.fetched Dat.blockOf iblk1; rw [A_eq1]; try rfl)
theorem before1_19 (c : Dev nD) (t : Fin cfg1.N) (d) : (dat1 V c).before 19 t d = iblk1 V c 19 t :=
  ((dat1 V c).before_in_eq_fetched 19 rfl (fun _ => rfl) (fun _ _ _ => rfl)
    (fun t => by rw [after1_19]; unfold Dat.blockOf iblk1; rw [A_eq1]; try rfl) t d).trans
    (by unfold Dat.fetched Dat.blockOf iblk1; rw [A_eq1]; try rfl)

/-- The staging buffers at point `t`. -/
abbrev ms1_0 (t : Fin cfg1.N) : Memref sig .tc .vmem S1x1024x512 .f32 := win1_0.stage (cfg1.slots t 0)
theorem hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
theorem hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
theorem hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
theorem hs1_3 (t : Fin cfg1.N) : (ms1_3 t).IsWhole := hstage1_3 ((cfg1.slots t 3).cast nbuf1_3)
abbrev ms1_4 (t : Fin cfg1.N) : Memref sig .tc .vmem S512x1920 .f32 := win1_4.stage (cfg1.slots t 4)
theorem hs1_4 (t : Fin cfg1.N) : (ms1_4 t).IsWhole := hstage1_4 ((cfg1.slots t 4).cast nbuf1_4)
abbrev ms1_5 (t : Fin cfg1.N) : Memref sig .tc .vmem S1x1920 .f32 := win1_5.stage (cfg1.slots t 5)
theorem hs1_5 (t : Fin cfg1.N) : (ms1_5 t).IsWhole := hstage1_5 ((cfg1.slots t 5).cast nbuf1_5)
abbrev ms1_6 (t : Fin cfg1.N) : Memref sig .tc .vmem S512x512 .f32 := win1_6.stage (cfg1.slots t 6)
theorem hs1_6 (t : Fin cfg1.N) : (ms1_6 t).IsWhole := hstage1_6 ((cfg1.slots t 6).cast nbuf1_6)
abbrev ms1_7 (t : Fin cfg1.N) : Memref sig .tc .vmem S1x512 .f32 := win1_7.stage (cfg1.slots t 7)
theorem hs1_7 (t : Fin cfg1.N) : (ms1_7 t).IsWhole := hstage1_7 ((cfg1.slots t 7).cast nbuf1_7)
abbrev ms1_8 (t : Fin cfg1.N) : Memref sig .tc .vmem S1024x512 .f32 := win1_8.stage (cfg1.slots t 8)
theorem hs1_8 (t : Fin cfg1.N) : (ms1_8 t).IsWhole := hstage1_8 ((cfg1.slots t 8).cast nbuf1_8)
abbrev ms1_9 (t : Fin cfg1.N) : Memref sig .tc .vmem S1x512 .f32 := win1_9.stage (cfg1.slots t 9)
theorem hs1_9 (t : Fin cfg1.N) : (ms1_9 t).IsWhole := hstage1_9 ((cfg1.slots t 9).cast nbuf1_9)
abbrev ms1_10 (t : Fin cfg1.N) : Memref sig .tc .vmem S512x128 .f32 := win1_10.stage (cfg1.slots t 10)
theorem hs1_10 (t : Fin cfg1.N) : (ms1_10 t).IsWhole := hstage1_10 ((cfg1.slots t 10).cast nbuf1_10)
abbrev ms1_11 (t : Fin cfg1.N) : Memref sig .tc .vmem S1x128 .f32 := win1_11.stage (cfg1.slots t 11)
theorem hs1_11 (t : Fin cfg1.N) : (ms1_11 t).IsWhole := hstage1_11 ((cfg1.slots t 11).cast nbuf1_11)
abbrev ms1_12 (t : Fin cfg1.N) : Memref sig .tc .vmem S128x512 .f32 := win1_12.stage (cfg1.slots t 12)
theorem hs1_12 (t : Fin cfg1.N) : (ms1_12 t).IsWhole := hstage1_12 ((cfg1.slots t 12).cast nbuf1_12)
abbrev ms1_13 (t : Fin cfg1.N) : Memref sig .tc .vmem S1x512 .f32 := win1_13.stage (cfg1.slots t 13)
theorem hs1_13 (t : Fin cfg1.N) : (ms1_13 t).IsWhole := hstage1_13 ((cfg1.slots t 13).cast nbuf1_13)
abbrev ms1_14 (t : Fin cfg1.N) : Memref sig .tc .vmem S1x1024 .f32 := win1_14.stage (cfg1.slots t 14)
theorem hs1_14 (t : Fin cfg1.N) : (ms1_14 t).IsWhole := hstage1_14 ((cfg1.slots t 14).cast nbuf1_14)
abbrev ms1_15 (t : Fin cfg1.N) : Memref sig .tc .vmem S1x1024 .f32 := win1_15.stage (cfg1.slots t 15)
theorem hs1_15 (t : Fin cfg1.N) : (ms1_15 t).IsWhole := hstage1_15 ((cfg1.slots t 15).cast nbuf1_15)
abbrev ms1_16 (t : Fin cfg1.N) : Memref sig .tc .vmem S1024x1024 .f32 := win1_16.stage (cfg1.slots t 16)
theorem hs1_16 (t : Fin cfg1.N) : (ms1_16 t).IsWhole := hstage1_16 ((cfg1.slots t 16).cast nbuf1_16)
abbrev ms1_17 (t : Fin cfg1.N) : Memref sig .tc .vmem S1x1024 .f32 := win1_17.stage (cfg1.slots t 17)
theorem hs1_17 (t : Fin cfg1.N) : (ms1_17 t).IsWhole := hstage1_17 ((cfg1.slots t 17).cast nbuf1_17)
abbrev ms1_18 (t : Fin cfg1.N) : Memref sig .tc .vmem S1024x512 .f32 := win1_18.stage (cfg1.slots t 18)
theorem hs1_18 (t : Fin cfg1.N) : (ms1_18 t).IsWhole := hstage1_18 ((cfg1.slots t 18).cast nbuf1_18)
abbrev ms1_19 (t : Fin cfg1.N) : Memref sig .tc .vmem S1x512 .f32 := win1_19.stage (cfg1.slots t 19)
theorem hs1_19 (t : Fin cfg1.N) : (ms1_19 t).IsWhole := hstage1_19 ((cfg1.slots t 19).cast nbuf1_19)
abbrev ms1_20 (t : Fin cfg1.N) : Memref sig .tc .vmem S1x1024x512 .f32 := win1_20.stage (cfg1.slots t 20)
theorem hs1_20 (t : Fin cfg1.N) : (ms1_20 t).IsWhole := hstage1_20 ((cfg1.slots t 20).cast nbuf1_20)

/-- What the body is handed at point `t`, -/
noncomputable def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d))
    ∗ (∃ d, owns (c : Thread nD τ) (ms1_20 t) fullShare ((dat1 V c).before 20 t d)))

/-- and what it gives back. -/
noncomputable def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t)
    ∗ owns (c : Thread nD τ) (ms1_20 t) fullShare ((dat1 V c).after 20 t))

/-- The body's inputs at point `t`. -/
abbrev inputsAt (c : Dev nD) (t : Fin cfg1.N) : sProp 𝕄 :=
  inputs c (ms1_0 t) (ms1_1 t) (ms1_2 t) (ms1_3 t) (ms1_4 t) (ms1_5 t) (ms1_6 t) (ms1_7 t) (ms1_8 t) (ms1_9 t) (ms1_10 t) (ms1_11 t) (ms1_12 t) (ms1_13 t) (ms1_14 t) (ms1_15 t) (ms1_16 t) (ms1_17 t) (ms1_18 t) (ms1_19 t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t)

/-- Before a point that starts a sequence the scratches hold anything, -/
theorem between_any (c : Dev nD) (n : ℕ) (h : n ≤ cfg1.N) : between V c n h
    ⊢ iprop(others c ∗ (∃ d, owns (c : Thread nD τ) scM1_0 fullShare d) ∗ (∃ d, owns (c : Thread nD τ) scM1_1 fullShare d) ∗ (∃ r, prngReg c r)) := by
  cases n with
  | zero => exact PhiA1_split c
  | succ n =>
    unfold between
    iintro ⟨HR, HS0, HS1, Hg⟩
    isplitl [HR]; · iexact HR
    isplitl [HS0]; · iexists _; iexact HS0
    isplitl [HS1]; · iexists _; iexact HS1
    iexact Hg

/-- before any other what it starts from. -/
theorem between_hand (c : Dev nD) (n : ℕ) (h : n < cfg1.N) (h0 : ¬n % 4 = 0) : between V c n (Nat.le_of_lt h)
    = iprop(others c ∗ owns (c : Thread nD τ) scM1_0 fullShare (handAt V c n h).carry ∗ owns (c : Thread nD τ) scM1_1 fullShare (handAt V c n h).state ∗ (∃ r, prngReg c r)) := by
  cases n with
  | zero => exact absurd rfl h0
  | succ n => rw [handAt_next V c n h h0]; rfl

theorem between_succ (c : Dev nD) (n : ℕ) (h : n + 1 ≤ cfg1.N) :
    between V c (n + 1) h
      = iprop(others c ∗ owns (c : Thread nD τ) scM1_0 fullShare (leftAt V c n h).carry ∗ owns (c : Thread nD τ) scM1_1 fullShare (leftAt V c n h).state ∗ (∃ r, prngReg c r)) := rfl

theorem leftAt_self (c : Dev nD) (t : Fin cfg1.N) :
    leftAt V c t.val t.isLt = handed (paramsAt V c t) (blocksAt V c t) (handAt V c t.val t.isLt) 4 := rfl

theorem leftAt_first (c : Dev nD) (t : Fin cfg1.N) (h0 : t.val % 4 = 0) :
    leftAt V c t.val t.isLt = handed (paramsAt V c t) (blocksAt V c t) Carried.zero 4 := by
  rw [leftAt_self, handAt_first V c t.val t.isLt h0]

theorem paramsAt_eq (c : Dev nD) (t : Fin cfg1.N) :
    paramsAt V c t
      = ⟨iblk1 V c 3 t, iblk1 V c 4 t, iblk1 V c 5 t, iblk1 V c 6 t, iblk1 V c 7 t, iblk1 V c 8 t, iblk1 V c 9 t, iblk1 V c 10 t, iblk1 V c 11 t, iblk1 V c 12 t, iblk1 V c 13 t, iblk1 V c 14 t, iblk1 V c 15 t, iblk1 V c 16 t, iblk1 V c 17 t, iblk1 V c 18 t, iblk1 V c 19 t⟩ := rfl

theorem blocksAt_eq (c : Dev nD) (t : Fin cfg1.N) :
    blocksAt V c t = blocksOf (grid1.coords t) (iblk1 V c 0 t) (iblk1 V c 1 t) (iblk1 V c 2 t) := rfl

theorem Carried.eta (x : Carried F) : (⟨x.carry, x.state⟩ : Carried F) = x := rfl

theorem Phi1_castSucc (c : Dev nD) (t : Fin cfg1.N) : (dat1 V c).Φ t.castSucc = between V c t.val (Nat.le_of_lt t.isLt) := by
  dsimp only [dat1]; exact Pipeline.Dat.Φ_castSucc (between V c) t

set_option maxHeartbeats 4000000 in
/-- The body, from its blocks and from what the scratches hold. -/
theorem body1 (c : Dev nD) (t : Fin cfg1.N) (K : PUnit → sProp 𝕄) :
    iprop(between V c t.val (Nat.le_of_lt t.isLt) ∗ inputsAt V c t ∗ (∃ d, owns (c : Thread nD τ) (ms1_20 t) fullShare d)
        ∗ (iprop(between V c (t.val + 1) t.isLt ∗ inputsAt V c t
            ∗ owns (c : Thread nD τ) (ms1_20 t) fullShare (outBlock (paramsAt V c t) (blocksAt V c t) (handAt V c t.val t.isLt))) -∗ K ⟨⟩))
      ⊢ wp frame (wpE (defs₀ (F := F)) Variants.none c none) Set.univ (bodyAt1 t) K := by
  unfold bodyAt1
  by_cases h0 : t.val % 4 = 0
  · refine BIBase.Entails.trans (sep_mono (between_any V c _ _) .rfl) ?_
    have run := bodyA c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) scM1_1 (Memref.isWhole_whole _) ((atFirst_iff t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) Set.univ K
    rw [← paramsAt_eq V c t, ← blocksAt_eq V c t] at run
    refine BIBase.Entails.trans ?_ run
    iintro ⟨⟨HR, HS0, HS1, Hg⟩, HI, HO, Hk⟩
    isplitl [HI]; · iexact HI
    isplitl [HO]; · iexact HO
    isplitl [HS0]; · iexact HS0
    isplitl [HS1]; · iexact HS1
    iintro ⟨HI, HO, HS0, HS1⟩
    iapply Hk
    rw [between_succ, leftAt_first V c t h0, handAt_first V c t.val t.isLt h0]
    isplitl [HR HS0 HS1 Hg]
    · isplitl [HR]; · iexact HR
      isplitl [HS0]; · iexact HS0
      isplitl [HS1]; · iexact HS1
      iexact Hg
    isplitl [HI]; · iexact HI
    iexact HO
  · rw [between_hand V c t.val t.isLt h0]
    have run := bodyB c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (ms1_20 t) (hs1_20 t) scM1_0 (Memref.isWhole_whole _) scM1_1 (Memref.isWhole_whole _) (fun h => h0 ((atFirst_iff t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (handAt V c t.val t.isLt).carry (handAt V c t.val t.isLt).state Set.univ K
    rw [← paramsAt_eq V c t, ← blocksAt_eq V c t, Carried.eta] at run
    refine BIBase.Entails.trans ?_ run
    iintro ⟨⟨HR, HS0, HS1, Hg⟩, HI, HO, Hk⟩
    isplitl [HI]; · iexact HI
    isplitl [HO]; · iexact HO
    isplitl [HS0]; · iexact HS0
    isplitl [HS1]; · iexact HS1
    iintro ⟨HI, HO, HS0, HS1⟩
    iapply Hk
    rw [between_succ, leftAt_self]
    isplitl [HR HS0 HS1 Hg]
    · isplitl [HR]; · iexact HR
      isplitl [HS0]; · iexact HS0
      isplitl [HS1]; · iexact HS1
      iexact Hg
    isplitl [HI]; · iexact HI
    iexact HO

set_option maxHeartbeats 2000000 in
theorem point1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2, before1_3, before1_4, before1_5, before1_6, before1_7, before1_8, before1_9, before1_10, before1_11, before1_12, before1_13, before1_14, before1_15, before1_16, before1_17, before1_18, before1_19]
  rw [show (dat1 V c).owesAt () t.succ = (dat1 V c).owesAt () t.castSucc from rfl, Phi1_castSucc,
    show (dat1 V c).Φ t.succ = between V c (t.val + 1) t.isLt from rfl,
    after1_0, after1_1, after1_2, after1_3, after1_4, after1_5, after1_6, after1_7, after1_8, after1_9, after1_10, after1_11, after1_12, after1_13, after1_14, after1_15, after1_16, after1_17, after1_18, after1_19, after1_20]
  refine BIBase.Entails.trans ?_ (body1 V c t _)
  unfold inputsAt inputs
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  isplitl [HΦ]; · iexact HΦ
  isplitl [H0 H1 H2 H3 H4 H5 H6 H7 H8 H9 H10 H11 H12 H13 H14 H15 H16 H17 H18 H19]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  isplitl [H20]; · iexists _; iexact H20
  iintro ⟨HΦ, ⟨H0, H1, H2, H3, H4, H5, H6, H7, H8, H9, H10, H11, H12, H13, H14, H15, H16, H17, H18, H19⟩, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem row1 (t : Fin cfg1.N) : defs₀ (F := F) .tc cfg1.body (cfg1.bodyArgs t (cfg1.slots t)) = bodyAt1 t := by
  unfold defs₀; rw [Defs.onTc_tc]

/-- The body does at every point what the pipeline asks of it. -/
theorem body_obligation1 (c : Dev nD) : BodyObligation (dat1 (F := F) V c) (defs₀ (F := F)) Variants.none () Set.univ := fun t => by
  rw [bigSep_W1, bigSep_W1, row1]
  exact triple_restated (point1 V c t) rfl .rfl fun _ => .rfl

/-- The last point leaves what the launch takes back. -/
theorem Phi1_last (c : Dev nD) : (dat1 V c).Φ (Fin.last cfg1.N) ⊢ Pipeline.ΦA spec1 c :=
  (show between V c (Fin.last cfg1.N).val (Nat.le_of_lt_succ (Fin.last cfg1.N).isLt) ⊢ Pipeline.ΦA spec1 c from (between_any V c _ _).trans (PhiA1_join c))

end Cert.Phasor

end
-- ==== Proof.Kern.Whole.lean ====
/-
  The whole program: what every buffer holds when it ends.
-/
module

public import proofs.«01_k».proof.Proof.Kern.Region0
public import proofs.«01_k».proof.Proof.Kern.Region1
public import proofs.«01_k».proof.Proof.Gen.KernelIdeal.Regions
public import Idealize.ShloMosaic.Lib.Pipeline.Frame
public import Idealize.ShloMosaic.Lib.Pipeline.Regions

@[expose] public section

set_option maxRecDepth 16384

noncomputable section

namespace Cert.Phasor

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers as the first kernel finds them. -/
abbrev entry0 : (c : Dev nD) → (b : Ref sig .tc) → Buf (Elt F) ((c : Thread nD τ).loc b) := fun c b => V0 m c b

/-- What the first kernel leaves. -/
noncomputable def tablesLeft : Outs (F := F) := fun _ r c =>
  Pipeline.withArrays spec0 c (V0 m c) (fun w => (dat0 (entry0 m) c).arrAt w cfg0.N) r

/-- The buffers as the second kernel finds them. -/
abbrev entry1 : (c : Dev nD) → (b : Ref sig .tc) → Buf (Elt F) ((c : Thread nD τ).loc b) := fun c b => V12 m (tablesLeft m) c b

/-- What the two kernels leave. -/
noncomputable def bothLeft : Outs (F := F) := fun J r c =>
  if J = 13 then Pipeline.withArrays spec1 c (V12 m (tablesLeft m) c) (fun w => (dat1 (entry1 m) c).arrAt w cfg1.N) r else tablesLeft m J r c

abbrev exit0 : (c : Dev nD) → (b : Ref sig .tc) → Buf (Elt F) ((c : Thread nD τ).loc b) := fun c b => V1 m (bothLeft m) c b
abbrev exit1 : (c : Dev nD) → (b : Ref sig .tc) → Buf (Elt F) ((c : Thread nD τ).loc b) := fun c b => V13 m (bothLeft m) c b

/-- What a region leaves in its result is what is read there afterwards. -/
theorem V1_cos (outs : Outs (F := F)) (c : Dev nD) : V1 m outs c main_v0_0 = outs 1 main_v0_0 c :=
  (Function.update_of_ne (StableHlo.devRef_ne_of_ne (by decide) : (Proc.devRef .tc main_v0_0 : DevRef τ sig) ≠ Proc.devRef .tc main_v0_1) _ _).trans (Function.update_self _ _ _)

theorem V1_sin (outs : Outs (F := F)) (c : Dev nD) : V1 m outs c main_v0_1 = outs 1 main_v0_1 c := Function.update_self _ _ _

theorem V13_out (outs : Outs (F := F)) (c : Dev nD) : V13 m outs c main_v23 = outs 13 main_v23 c := Function.update_self _ _ _

theorem V1_same (c : Dev nD) : V1 m (bothLeft m) c = V1 m (tablesLeft m) c := rfl

theorem V12_same (c : Dev nD) : V12 m (bothLeft m) c = V12 m (tablesLeft m) c := by
  unfold V12 V11 V10 V9 V8 V7 V6 V5 V4 V3 V2; rw [V1_same]

theorem left0 (c : Dev nD) (J : ℕ) (w : Fin cfg0.W) : tablesLeft m J (Pipeline.arrRef spec0 w) c = (dat0 (entry0 m) c).arrAt w cfg0.N :=
  Pipeline.withArrays_arr spec0 launch0.win.arr_inj c _ _ w

theorem left1 (c : Dev nD) (w : Fin cfg1.W) : bothLeft m 13 (Pipeline.arrRef spec1 w) c = (dat1 (entry1 m) c).arrAt w cfg1.N :=
  (if_pos rfl).trans (Pipeline.withArrays_arr spec1 launch1.win.arr_inj c _ _ w)

theorem exit0_arr (c : Dev nD) (w : Fin cfg0.W) : (dat0 (entry0 m) c).arrAt w cfg0.N = exit0 m c (Pipeline.arrRef spec0 w) := by
  match w with
  | ⟨0, _⟩ => exact (((dat0 (entry0 m) c).arrAt_in 0 rfl _).trans (A_eq0 (entry0 m) c 0)).trans (V1_of m (bothLeft m) c _ (by decide)).symm
  | ⟨1, _⟩ => exact ((V1_cos m (bothLeft m) c).trans (left0 m c 1 1)).symm
  | ⟨2, _⟩ => exact ((V1_sin m (bothLeft m) c).trans (left0 m c 1 2)).symm

theorem exit0_rest (c : Dev nD) : ∀ b, b ∉ Finset.univ.image (Pipeline.arrRef spec0) → exit0 m c b = entry0 m c b := fun b hb =>
  V1_of m (bothLeft m) c b fun h => hb (by
    rcases List.mem_cons.mp h with h | h
    · exact Finset.mem_image.mpr ⟨1, Finset.mem_univ _, h.symm⟩
    · exact Finset.mem_image.mpr ⟨2, Finset.mem_univ _, (List.mem_singleton.mp h).symm⟩)

theorem input1 : ∀ w : Fin cfg1.W, w ≠ 20 → (cfg1.win w).isOut = false ∧ Pipeline.arrRef spec1 w ∉ ([main_v23] : List (Ref sig .tc)) := by decide

theorem exit1_arr (c : Dev nD) (w : Fin cfg1.W) : (dat1 (entry1 m) c).arrAt w cfg1.N = exit1 m c (Pipeline.arrRef spec1 w) := by
  by_cases h : w = 20
  · subst h; exact ((V13_out m (bothLeft m) c).trans (left1 m c 20)).symm
  · obtain ⟨hi, hn⟩ := input1 w h
    exact (((dat1 (entry1 m) c).arrAt_in w hi _).trans (A_eq1 (entry1 m) c w)).trans ((V13_of m (bothLeft m) c _ hn).trans (congrFun (V12_same m c) _)).symm

theorem exit1_rest (c : Dev nD) : ∀ b, b ∉ Finset.univ.image (Pipeline.arrRef spec1) → exit1 m c b = entry1 m c b := fun b hb =>
  (V13_of m (bothLeft m) c b fun h => hb (Finset.mem_image.mpr ⟨20, Finset.mem_univ _, (List.mem_singleton.mp h).symm⟩)).trans (congrFun (V12_same m c) _)

/-- The data of the two pipelines. -/
noncomputable def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

abbrev 𝒱₀ : Variants := Variants.none
abbrev L : GSem nD τ sig → Finset Unit := fun _ => ∅
abbrev lv : GSem nD τ sig → Unit → ℕ := fun _ _ => 0

/-- What goes along with the buffers: the generator's register, and that nothing is owed. -/
abbrev beside (c : Dev nD) : sProp 𝕄 := iprop((∃ r, prngReg c r) ∗ ∃ W, owes (c : Thread nD τ) (0 : CellTallies nD τ sig Unit) W)

-- a library lemma about the pinned pipeline is matched with the pipeline itself, which takes unfolding in types
set_option backward.isDefEq.respectTransparency.types false in
/-- Kernel 1 of the program: its arrays are taken out of the buffers held, and put back as it leaves them. -/
noncomputable def region0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (V0 m c) ∗ beside c)
  post c := iprop(StableHlo.held (c : Thread nD τ) (Pipeline.ucRefs τ sig) (V1 m (bothLeft m) c) ∗ beside c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) (A_eq0 (entry0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine BIBase.Entails.trans (BI.Entails.refl _) ?_
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma about the pinned pipeline is matched with the pipeline itself, which takes unfolding in types
set_option backward.isDefEq.respectTransparency.types false in
/-- Kernel 2 of the program: its arrays are taken out of the buffers held, and put back as it leaves them. -/
noncomputable def region1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (V12 m (tablesLeft m) c) ∗ beside c)
  post c := iprop(StableHlo.held (c : Thread nD τ) (Pipeline.ucRefs τ sig) (V13 m (bothLeft m) c) ∗ beside c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) (A_eq1 (entry1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine BIBase.Entails.trans (Phi1_last (entry1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- A buffer that lives through the launch is among those held. -/
theorem held_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- as above
set_option backward.isDefEq.respectTransparency.types false in
/-- From any memory with every counter at zero the program ends, with every buffer that lives through the launch at `V13` and
    every counter at zero. -/
theorem whole : θ_run defs (onTc (τ := τ) (main (F := F))) ⟨m, fun _ => 0, ρ⟩
    (fun r => (∀ c : Dev nD, ∀ b ∈ Pipeline.ucRefs τ sig, r.2.mem ((c : Thread nD τ).1, b) = V13 m (bothLeft m) c b) ∧ r.2.sem = fun _ => 0) := by
  refine Pipeline.θ_run_regions_kit_dev_sems (pcfgs (F := F)) adm (pdats m) () cellOf_inj emb₁ defs₀ 𝒱₀ L lv m ρ main
    (segs m (bothLeft m) 𝒱₀ L lv (fun _ => beside) () (pdats m) (region0 m) (region1 m))
    (fun c Q => by
      rewrite [main_chain c, Seg.run_eq_chain,
        show (segs m (bothLeft m) 𝒱₀ L lv (fun _ => beside) () (pdats m) (region0 m) (region1 m) c).map Seg.prog = [
          Prog.lift (.customCall (Pipeline.entry 0) ()), StableHlo.seq hostOps1, StableHlo.seq hostOps1_1, StableHlo.seq hostOps1_2,
          StableHlo.seq hostOps1_3, StableHlo.seq hostOps1_4, StableHlo.seq hostOps1_5, StableHlo.seq hostOps1_6, StableHlo.seq hostOps1_7,
          StableHlo.seq hostOps1_8, StableHlo.seq hostOps1_9, StableHlo.seq hostOps1_10, Prog.lift (.customCall (Pipeline.entry 1) ()) ] from rfl]
      dsimp (config := { failIfUnchanged := false }) only
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ beside c))
    (Tₙ := fun c => iprop(StableHlo.held (c : Thread nD τ) (Pipeline.ucRefs τ sig) (V13 m (bothLeft m) c) ∗ ∃ r, prngReg c r))
    (hch := fun c => ⟨.rfl, .rfl, .rfl, .rfl, .rfl, .rfl, .rfl, .rfl, .rfl, .rfl, .rfl, .rfl, ?_, ?_⟩)
    (hinit := ?_) (QY := fun c s => ∀ b ∈ Pipeline.ucRefs τ sig, s.mem (((c : Thread nD τ)).1, b) = V13 m (bothLeft m) c b)
    (hfin := fun c s' => ?_) (hQ := fun _ h hz => ⟨h, funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (V12 m (bothLeft m) c) ∗ beside c) ⊢ (region1 m).pre c
    rw [V12_same]; exact .rfl
  · show iprop(StableHlo.held (c : Thread nD τ) (Pipeline.ucRefs τ sig) (V13 m (bothLeft m) c) ∗ beside c) ⊢ _
    iintro ⟨Hh, Hp, HO⟩
    isplitl [Hh Hp]
    · isplitl [Hh]; · iexact Hh
      iexact Hp
    iexact HO
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨⟨Hh, -⟩, HSI⟩
    unfold StableHlo.held
    imodintro
    iapply (pointsTo_read_all (Pipeline.ucRefs τ sig) (fun b => (((c : Thread nD τ)).1, b)) (V13 m (bothLeft m) c) s')
    isplitl [Hh] <;> iassumption

end Cert.Phasor

end
-- ==== Proof.Kern.Unchanged.lean ====
/-
  Every argument ends as it was launched, and every counter ends at zero.
-/
module

public import proofs.«01_k».proof.Proof.Kern.Whole

@[expose] public section

set_option maxRecDepth 16384

noncomputable section

namespace Cert.Phasor

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A memory that holds what the program leaves holds the arguments as they were. -/
theorem args_unchanged {mem : (ℓ : Loc nD τ sig) → Buf (Elt F) ℓ}
    (h : ∀ c : Dev nD, ∀ b ∈ Pipeline.ucRefs τ sig, mem ((c : Thread nD τ).1, b) = V13 m (bothLeft m) c b) (c : Dev nD) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18)
      ∧ mem ((c.tc : Thread nD τ).loc main_arg19) = m ((c.tc : Thread nD τ).loc main_arg19)
      ∧ mem ((c.tc : Thread nD τ).loc main_arg20) = m ((c.tc : Thread nD τ).loc main_arg20)
      ∧ mem ((c.tc : Thread nD τ).loc main_arg21) = m ((c.tc : Thread nD τ).loc main_arg21)
      ∧ mem ((c.tc : Thread nD τ).loc main_arg22) = m ((c.tc : Thread nD τ).loc main_arg22)
      ∧ mem ((c.tc : Thread nD τ).loc main_arg23) = m ((c.tc : Thread nD τ).loc main_arg23)
      ∧ mem ((c.tc : Thread nD τ).loc main_arg24) = m ((c.tc : Thread nD τ).loc main_arg24)
      ∧ mem ((c.tc : Thread nD τ).loc main_arg25) = m ((c.tc : Thread nD τ).loc main_arg25)
      ∧ mem ((c.tc : Thread nD τ).loc main_arg26) = m ((c.tc : Thread nD τ).loc main_arg26)
      ∧ mem ((c.tc : Thread nD τ).loc main_arg27) = m ((c.tc : Thread nD τ).loc main_arg27)
      ∧ mem ((c.tc : Thread nD τ).loc main_arg28) = m ((c.tc : Thread nD τ).loc main_arg28) :=
  ⟨((h c _ (held_mem main_arg0 (by decide))).trans (V13_main_arg0 m (bothLeft m) c)),
    ((h c _ (held_mem main_arg1 (by decide))).trans (V13_main_arg1 m (bothLeft m) c)),
    ((h c _ (held_mem main_arg2 (by decide))).trans (V13_main_arg2 m (bothLeft m) c)),
    ((h c _ (held_mem main_arg3 (by decide))).trans (V13_main_arg3 m (bothLeft m) c)),
    ((h c _ (held_mem main_arg4 (by decide))).trans (V13_main_arg4 m (bothLeft m) c)),
    ((h c _ (held_mem main_arg5 (by decide))).trans (V13_main_arg5 m (bothLeft m) c)),
    ((h c _ (held_mem main_arg6 (by decide))).trans (V13_main_arg6 m (bothLeft m) c)),
    ((h c _ (held_mem main_arg7 (by decide))).trans (V13_main_arg7 m (bothLeft m) c)),
    ((h c _ (held_mem main_arg8 (by decide))).trans (V13_main_arg8 m (bothLeft m) c)),
    ((h c _ (held_mem main_arg9 (by decide))).trans (V13_main_arg9 m (bothLeft m) c)),
    ((h c _ (held_mem main_arg10 (by decide))).trans (V13_main_arg10 m (bothLeft m) c)),
    ((h c _ (held_mem main_arg11 (by decide))).trans (V13_main_arg11 m (bothLeft m) c)),
    ((h c _ (held_mem main_arg12 (by decide))).trans (V13_main_arg12 m (bothLeft m) c)),
    ((h c _ (held_mem main_arg13 (by decide))).trans (V13_main_arg13 m (bothLeft m) c)),
    ((h c _ (held_mem main_arg14 (by decide))).trans (V13_main_arg14 m (bothLeft m) c)),
    ((h c _ (held_mem main_arg15 (by decide))).trans (V13_main_arg15 m (bothLeft m) c)),
    ((h c _ (held_mem main_arg16 (by decide))).trans (V13_main_arg16 m (bothLeft m) c)),
    ((h c _ (held_mem main_arg17 (by decide))).trans (V13_main_arg17 m (bothLeft m) c)),
    ((h c _ (held_mem main_arg18 (by decide))).trans (V13_main_arg18 m (bothLeft m) c)),
    ((h c _ (held_mem main_arg19 (by decide))).trans (V13_main_arg19 m (bothLeft m) c)),
    ((h c _ (held_mem main_arg20 (by decide))).trans (V13_main_arg20 m (bothLeft m) c)),
    ((h c _ (held_mem main_arg21 (by decide))).trans (V13_main_arg21 m (bothLeft m) c)),
    ((h c _ (held_mem main_arg22 (by decide))).trans (V13_main_arg22 m (bothLeft m) c)),
    ((h c _ (held_mem main_arg23 (by decide))).trans (V13_main_arg23 m (bothLeft m) c)),
    ((h c _ (held_mem main_arg24 (by decide))).trans (V13_main_arg24 m (bothLeft m) c)),
    ((h c _ (held_mem main_arg25 (by decide))).trans (V13_main_arg25 m (bothLeft m) c)),
    ((h c _ (held_mem main_arg26 (by decide))).trans (V13_main_arg26 m (bothLeft m) c)),
    ((h c _ (held_mem main_arg27 (by decide))).trans (V13_main_arg27 m (bothLeft m) c)),
    ((h c _ (held_mem main_arg28 (by decide))).trans (V13_main_arg28 m (bothLeft m) c))⟩

/-- From any memory with every counter at zero the program ends with its arguments unchanged and every counter at zero. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  (θ_run defs _ _).mono (fun _ h => ⟨fun c => args_unchanged m h.1 c, h.2⟩) (whole m ρ)

end Cert.Phasor

end
-- ==== Proof.Kern.Frames.lean ====
/-
  The frames of the idealized programs, and the two named constants.
-/
module

public import proofs.«01_k».proof.Defs
public import proofs.«01_k».proof.Proof.Kern.Unchanged
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Phasor

theorem frame_ideal : Cert.quiescent_KernelIdeal := fun m g _ => unchanged (F := Ideal) m g

/-- The reference holds no semaphore, and its run leaves its arguments as they were. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Both words are read as named constants: the reciprocals of the two numbers that the reference divides by. -/
theorem named_scales : Cert.preserves_Kernel_KernelIdeal :=
  ⟨IdealRules.named_const.statement Cert.KernelIdeal.κ "inv_sqrt_512" .f32 0x3D3504F3#32 _ rfl,
    IdealRules.named_const.statement Cert.KernelIdeal.κ "inv_sqrt_128" .f32 0x3DB504F3#32 _ rfl⟩

end Cert.Phasor

end
-- ==== Proof.Kern.Words.lean ====
/-
  The frame of the program as printed: the printed program and the idealized one are the same text but for the two named
  constants, so the run proved for any float values, with each constant read as its own word, is the printed program's.
-/
module

public import proofs.«01_k».proof.Defs
public import proofs.«01_k».proof.Proof.Kern.Unchanged
public import proofs.«01_k».proof.Proof.Gen.Kernel

@[expose] public section

set_option maxRecDepth 100000
set_option maxHeartbeats 0

noncomputable section

open Idealize.ShloMosaic Idealize.ShloMosaic.TcCoe Idealize.SL.Sem

namespace Cert.Phasor

/-- Every named constant read as the word that it is printed with. -/
@[instance_reducible] def word {F : FTy → Type} [FloatOps F] : Named F where
  named _ _ {φ} b := Scalar.ofBits φ b

theorem frame_words : Cert.quiescent_Kernel := fun m g _ => by
  have h := @unchanged Bits _ word m g
  refine Eq.mp ?_ h
  sl_kernel_rfl

end Cert.Phasor

end
-- ==== Proof.Value.Model.lean ====
/-
  One batch of the layer as functions of the row and the column, row by row, in the order of the reference's lines.
-/
module

public import Idealize.ShloMosaic.PureOps.Ideal
public import Idealize.ShloMosaic.Lib.Pointwise

@[expose] public section

noncomputable section

namespace Cert.Phasor

open Idealize.ShloMosaic

/-- The arrays of one batch: the rows of `x`, the phases, the magnitude scale, and each layer's weights and bias. -/
structure Arrays where
  x : ℕ → Fin 512 → EReal
  phi : ℕ → Fin 512 → EReal
  ms : EReal
  wv : Fin 512 → Fin 512 → EReal
  bv : Fin 512 → EReal
  wo : Fin 512 → Fin 512 → EReal
  bo : Fin 512 → EReal
  wm : Fin 512 → Fin 512 → EReal
  bm : Fin 512 → EReal
  wq : Fin 512 → Fin 512 → EReal
  bq : Fin 512 → EReal
  wke : Fin 512 → Fin 128 → EReal
  bke : Fin 128 → EReal
  wve : Fin 512 → Fin 8 → EReal
  bve : Fin 8 → EReal
  ws1 : Fin 1024 → Fin 512 → EReal
  bs1 : Fin 512 → EReal
  ws2 : Fin 512 → Fin 128 → EReal
  bs2 : Fin 128 → EReal
  wg : Fin 512 → EReal
  bg : EReal
  wkv : Fin 8 → Fin 512 → EReal
  bkv : Fin 512 → EReal
  lng : Fin 1024 → EReal
  lnb : Fin 1024 → EReal
  wt1 : Fin 1024 → Fin 1024 → EReal
  bt1 : Fin 1024 → EReal
  wt2 : Fin 1024 → Fin 512 → EReal
  bt2 : Fin 512 → EReal

/-- A linear layer. -/
def lin {n m : ℕ} (x : Fin n → EReal) (w : Fin n → Fin m → EReal) (b : Fin m → EReal) (j : Fin m) : EReal :=
  ∑ k : Fin n, x k * w k j + b j

/-- Two rows of 512 columns side by side. -/
def beside2 (a b : Fin 512 → EReal) (k : Fin 1024) : EReal :=
  if h : k.val < 512 then a ⟨k.val, h⟩ else b ⟨k.val - 512, by omega⟩

/-- The sum of the first `n` values. -/
def sumTo (f : ℕ → EReal) (n : ℕ) : EReal := ∑ s ∈ Finset.range n, f s

/-- The float constants of the text, each the value of its word. -/
def cHalf : EReal := Ideal.ofBits .f32 0x3F000000#32
def cOne : EReal := Ideal.ofBits .f32 0x3F800000#32
def cRoot : EReal := Ideal.ofBits .f32 0x3F3504F3#32
def cPi : EReal := Ideal.ofBits .f32 0x40490FDB#32
def cTiny : EReal := Ideal.ofBits .f32 0x322BCC77#32
def cEps : EReal := Ideal.ofBits .f32 0x3727C5AC#32
def c512 : EReal := Ideal.ofBits .f32 0x41B504F3#32
def c128 : EReal := Ideal.ofBits .f32 0x413504F3#32
def cWidth : EReal := Ideal.ofBits .f32 0x44800000#32

/-- The exact gelu. -/
def gelu1 (z : EReal) : EReal := cHalf * z * (cOne + Ideal.erf (z * cRoot))

namespace Arrays

variable (A : Arrays) (t : ℕ)

/-- The positional memory: magnitude, weighted value, and their running sums. -/
def mag (d : Fin 512) : EReal := Ideal.logistic (lin (A.x t) A.wm A.bm d) * max A.ms (-A.ms)
def wval (d : Fin 512) : EReal := A.mag t d * lin (A.x t) A.wv A.bv d
def boundC (d : Fin 512) : EReal := A.wval t d * Ideal.cos (A.phi t d)
def boundS (d : Fin 512) : EReal := A.wval t d * Ideal.sin (A.phi t d)
def cumC (d : Fin 512) : EReal := sumTo (fun s => A.boundC s d) (t + 1)
def cumS (d : Fin 512) : EReal := sumTo (fun s => A.boundS s d) (t + 1)
def cumM (d : Fin 512) : EReal := sumTo (fun s => A.mag s d) (t + 1)

/-- Its retrieval at the query's phase. -/
def dq (d : Fin 512) : EReal := lin (A.x t) A.wq A.bq d
def posRet (d : Fin 512) : EReal :=
  Ideal.div (Ideal.div (A.cumC t d) (Ideal.sqrt (A.cumM t d + cTiny)) * Ideal.cos (A.phi t d + A.dq t d)
    + Ideal.div (A.cumS t d) (Ideal.sqrt (A.cumM t d + cTiny)) * Ideal.sin (A.phi t d + A.dq t d)) c512
def posOut (d : Fin 512) : EReal := lin (A.posRet t) A.wo A.bo d

/-- The key-value memory: the gate, the phases, the gated values. -/
def gate : EReal := Ideal.logistic (∑ k : Fin 512, A.x t k * A.wg k + A.bg)
def cumG : EReal := sumTo A.gate (t + 1)
def cumX (d : Fin 512) : EReal := sumTo (fun s => A.x s d) (t + 1)
def ctx (d : Fin 512) : EReal := Ideal.div (A.cumX t d) (((t + 1 : ℕ) : ℝ) : EReal)
def store1 (d : Fin 512) : EReal := lin (beside2 (A.x t) (A.ctx t)) A.ws1 A.bs1 d
def sp (p : Fin 128) : EReal := Ideal.tanh (lin (fun k => gelu1 (A.store1 t k)) A.ws2 A.bs2 p) * cPi
def qp (p : Fin 128) : EReal := Ideal.tanh (lin (A.x t) A.wke A.bke p) * cPi
def gv (v : Fin 8) : EReal := lin (A.x t) A.wve A.bve v * A.gate t

/-- Its running sums and its retrieval. -/
def memC (p : Fin 128) (v : Fin 8) : EReal := sumTo (fun s => Ideal.cos (A.sp s p) * A.gv s v) (t + 1)
def memS (p : Fin 128) (v : Fin 8) : EReal := sumTo (fun s => Ideal.sin (A.sp s p) * A.gv s v) (t + 1)
def inv : EReal := Ideal.div cOne (Ideal.sqrt (max cOne (A.cumG t)))
def kvRet (v : Fin 8) : EReal :=
  Ideal.div (∑ p : Fin 128, (Ideal.cos (A.qp t p) * (A.memC t p v * A.inv t) + Ideal.sin (A.qp t p) * (A.memS t p v * A.inv t)))
    c128
def kvOut (d : Fin 512) : EReal := lin (A.kvRet t) A.wkv A.bkv d

/-- The layer norm and the mixing layers. -/
def comb (k : Fin 1024) : EReal := beside2 (A.posOut t) (A.kvOut t) k
def mu : EReal := Ideal.div (∑ k : Fin 1024, A.comb t k) cWidth
def var : EReal := Ideal.div (∑ k : Fin 1024, (A.comb t k - A.mu t) * (A.comb t k - A.mu t)) cWidth
def normed (k : Fin 1024) : EReal :=
  Ideal.div (A.comb t k - A.mu t) (Ideal.sqrt (A.var t + cEps)) * A.lng k + A.lnb k
def mix1 (k : Fin 1024) : EReal := lin (A.normed t) A.wt1 A.bt1 k
def out (d : Fin 512) : EReal := A.x t d + lin (fun k => gelu1 (A.mix1 t k)) A.wt2 A.bt2 d

end Arrays

end Cert.Phasor

end
-- ==== Proof.Value.Consts.lean ====
/-
  The float constants of the two programs as reals.
-/
module

public import Idealize.ShloMosaic.PureOps.Ideal
public import proofs.«01_k».proof.Proof.Value.Model

@[expose] public section

noncomputable section

namespace Cert.Phasor

open Idealize.ShloMosaic

/-- The small number added to the magnitudes is a positive real. -/
theorem tiny_real : ∃ e : ℝ, 0 < e ∧ cTiny = (e : EReal) := by
  refine ⟨_, ?_, by simp [cTiny, Ideal.ofBits, Ideal.ieee, -EReal.coe_mul]; rfl⟩
  norm_num

/-- So is the one added to the variance. -/
theorem eps_real : ∃ e : ℝ, 0 < e ∧ cEps = (e : EReal) := by
  refine ⟨_, ?_, by simp [cEps, Ideal.ofBits, Ideal.ieee, -EReal.coe_mul]; rfl⟩
  norm_num

/-- The number of columns is a positive real. -/
theorem width_real : cWidth = ((1024 : ℝ) : EReal) := by
  simp [cWidth, Ideal.ofBits, Ideal.ieee, -EReal.coe_mul]; norm_num

/-- The roundings of the two roots that the reference divides by. -/
theorem c512_real : c512 = ((11863283 / 524288 : ℝ) : EReal) := by
  simp [c512, Ideal.ofBits, Ideal.ieee, -EReal.coe_mul]; norm_num

theorem c128_real : c128 = ((11863283 / 1048576 : ℝ) : EReal) := by
  simp [c128, Ideal.ofBits, Ideal.ieee, -EReal.coe_mul]; norm_num

theorem pi_real : ∃ e : ℝ, cPi = (e : EReal) :=
  ⟨_, by simp [cPi, Ideal.ofBits, Ideal.ieee, -EReal.coe_mul]; rfl⟩

theorem one_real : cOne = 1 := by
  simp [cOne, Ideal.ofBits, Ideal.ieee, -EReal.coe_mul]; norm_num

end Cert.Phasor

end
-- ==== Proof.Value.Sums.lean ====
/-
  Sums of the first rows.
-/
module

public import proofs.«01_k».proof.Proof.Value.Model

@[expose] public section

noncomputable section

namespace Cert.Phasor

theorem sumTo_zero (f : ℕ → EReal) : sumTo f 0 = 0 := rfl

/-- The rows of a sub-block up to row `j`, added to the rows before the sub-block. -/
theorem range_block {M : Type*} [AddCommMonoid M] (f : ℕ → M) (n : ℕ) {m : ℕ} (j : Fin m) :
    (∑ k : Fin m, if k ≤ j then f (n + k.val) else 0) + ∑ s ∈ Finset.range n, f s = ∑ s ∈ Finset.range (n + j.val + 1), f s := by
  have h : (∑ k : Fin m, if k ≤ j then f (n + k.val) else 0) = ∑ k ∈ Finset.range (j.val + 1), f (n + k) := by
    have := Fin.sum_univ_eq_sum_range (fun k => if k ≤ j.val then f (n + k) else 0) m
    simp only [Fin.le_def]
    rw [this, ← Finset.sum_filter]
    refine Finset.sum_congr ?_ fun _ _ => rfl
    ext k
    simp only [Finset.mem_filter, Finset.mem_range]
    omega
  rw [h, add_comm, add_assoc n, Finset.sum_range_add f n (j.val + 1)]

theorem sumTo_block (f : ℕ → EReal) (n : ℕ) {m : ℕ} (j : Fin m) :
    (∑ k : Fin m, if k ≤ j then f (n + k.val) else 0) + sumTo f n = sumTo f (n + j.val + 1) := range_block f n j

/-- All rows of a sub-block, added to the rows before it. -/
theorem sumTo_add (f : ℕ → EReal) (n m : ℕ) : sumTo f n + ∑ k : Fin m, f (n + k.val) = sumTo f (n + m) := by
  rw [Fin.sum_univ_eq_sum_range (fun k => f (n + k)) m, sumTo, sumTo, Finset.sum_range_add]

theorem sumTo_nonneg {f : ℕ → EReal} (h : ∀ s, 0 ≤ f s) (n : ℕ) : 0 ≤ sumTo f n := Finset.sum_nonneg fun s _ => h s

theorem sumTo_coe (f : ℕ → ℝ) (n : ℕ) : sumTo (fun s => (f s : EReal)) n = ((∑ s ∈ Finset.range n, f s : ℝ) : EReal) :=
  (map_sum (⟨⟨Real.toEReal, rfl⟩, EReal.coe_add⟩ : ℝ →+ EReal) f _).symm

theorem sum_coe {m : ℕ} (f : Fin m → ℝ) : ∑ s, (f s : EReal) = ((∑ s, f s : ℝ) : EReal) :=
  (map_sum (⟨⟨Real.toEReal, rfl⟩, EReal.coe_add⟩ : ℝ →+ EReal) f _).symm

/-- A layer over two rows side by side is the sum of its halves. -/
theorem lin_beside {m : ℕ} (a b : Fin 512 → EReal) (u : Fin 1024 → Fin m → EReal) (c : Fin m → EReal) (d : Fin m) :
    lin (beside2 a b) u c d
      = (∑ k : Fin 512, a k * u ⟨k.val, by omega⟩ d + ∑ k : Fin 512, b k * u ⟨512 + k.val, by omega⟩ d) + c d := by
  unfold lin
  rw [show (∑ k : Fin 1024, beside2 a b k * u k d) = _ from Fin.sum_univ_add (a := 512) (b := 512) fun k => beside2 a b k * u k d]
  congr 2

end Cert.Phasor

end
-- ==== Proof.Value.Laws.lean ====
/-
  The laws between the kernel's forms and the reference's, over the extended reals.
-/
module

public import proofs.«01_k».proof.Proof.Value.Consts
public import proofs.«01_k».proof.Proof.Value.Sums

@[expose] public section

noncomputable section

namespace Cert.Phasor

open Idealize.ShloMosaic

/-- Times the reciprocal root is over the root, above zero. -/
theorem mul_rsqrt {y : EReal} (hy : 0 < y) (u : EReal) : u * Ideal.rsqrt y = Ideal.div u (Ideal.sqrt y) := by
  induction y with
  | bot => exact absurd hy (by simp)
  | top => simp [Ideal.div]
  | coe y =>
    have hy' : 0 < y := by exact_mod_cast hy
    rw [Ideal.sqrt_coe, Ideal.rsqrt_coe, if_neg hy'.not_gt, if_neg hy'.not_gt, if_neg hy'.ne',
      Ideal.div_coe (Real.sqrt_pos.mpr hy').ne', one_div]

theorem rsqrt_nonneg {y : EReal} (hy : 0 < y) : 0 ≤ Ideal.rsqrt y ∧ Ideal.rsqrt y ≠ ⊤ := by
  induction y with
  | bot => exact absurd hy (by simp)
  | top => simp
  | coe y =>
    have hy' : 0 < y := by exact_mod_cast hy
    rw [Ideal.rsqrt_coe, if_neg hy'.not_gt, if_neg hy'.ne']
    exact ⟨by exact_mod_cast inv_nonneg.mpr (Real.sqrt_nonneg y), EReal.coe_ne_top _⟩

/-- The positional retrieval: the angle's sum, and the root taken once or on each term. -/
theorem posRet_law (C S : EReal) (p q : ℝ) {y : EReal} (hy : 0 < y) :
    (C * (Ideal.cos p * Ideal.cos q - Ideal.sin p * Ideal.sin q) + S * (Ideal.sin p * Ideal.cos q + Ideal.cos p * Ideal.sin q))
        * Ideal.rsqrt y * ((524288 / 11863283 : ℝ) : EReal)
      = Ideal.div (Ideal.div C (Ideal.sqrt y) * Ideal.cos ((p : EReal) + q) + Ideal.div S (Ideal.sqrt y) * Ideal.sin ((p : EReal) + q))
          c512 := by
  obtain ⟨h0, h1⟩ := rsqrt_nonneg hy
  rw [← mul_rsqrt hy, ← mul_rsqrt hy, c512_real, Ideal.div_coe (by norm_num), one_div_div, ← EReal.coe_add]
  simp only [Ideal.cos_coe, Ideal.sin_coe, ← EReal.coe_mul, ← EReal.coe_add, ← EReal.coe_sub, Real.cos_add, Real.sin_add]
  rw [EReal.right_distrib_of_nonneg_of_ne_top h0 h1]
  rw [mul_right_comm C, mul_right_comm S]

theorem tanh_real (x : EReal) : ∃ r : ℝ, Ideal.tanh x = r := by
  induction x with
  | bot => exact ⟨-1, by simp⟩
  | top => exact ⟨1, by simp⟩
  | coe x => exact ⟨_, rfl⟩

theorem logistic_real (x : EReal) : ∃ r : ℝ, 0 ≤ r ∧ Ideal.logistic x = r := by
  induction x with
  | bot => exact ⟨0, le_rfl, by simp⟩
  | top => exact ⟨1, zero_le_one, by simp⟩
  | coe x => exact ⟨(1 + Real.exp (-x))⁻¹, by positivity, Ideal.logistic_coe x⟩

theorem mul_self_nonneg' (x : EReal) : 0 ≤ x * x := by
  induction x with
  | bot => simp
  | top => simp
  | coe x => exact_mod_cast mul_self_nonneg x

/-- The key-value retrieval of one value column: within the sub-block by masked scores and before it by the state, against the sums. -/
theorem attn_law (cq sq : Fin 128 → ℝ) (cs ss : ℕ → Fin 128 → ℝ) (g : ℕ → ℝ) (n : ℕ) (j : Fin 256) :
    ∑ x : Fin 256, (∑ p, cq p * cs (n + x.val) p + ∑ p, sq p * ss (n + x.val) p) * (if x ≤ j then 1 else 0) * g (n + x.val)
        + (∑ p, cq p * ∑ s ∈ Finset.range n, cs s p * g s + ∑ p, sq p * ∑ s ∈ Finset.range n, ss s p * g s)
      = ∑ p, (cq p * ∑ s ∈ Finset.range (n + j.val + 1), cs s p * g s + sq p * ∑ s ∈ Finset.range (n + j.val + 1), ss s p * g s) := by
  simp only [← range_block (fun s => cs s _ * g s) n j, ← range_block (fun s => ss s _ * g s) n j, mul_add, Finset.sum_add_distrib, add_mul,
    Finset.sum_mul, Finset.mul_sum]
  rw [Finset.sum_comm, Finset.sum_comm (s := Finset.univ (α := Fin 256)) (f := fun x p => sq p * _ * _ * _)]
  have e : ∀ (a b c : ℝ) (x : Fin 256), a * b * (if x ≤ j then 1 else 0) * c = a * (if x ≤ j then b * c else 0) := by
    intro a b c x; split <;> ring
  simp only [e]
  ring

end Cert.Phasor

end
-- ==== Proof.Value.Pos.lean ====
/-
  The kernel's step on one sub-block at a row and a column, against the model: what the step reads, its projections, its running
  sums and the positional memory's retrieval.
-/
module

public import proofs.«01_k».proof.Proof.Kern.Block
public import proofs.«01_k».proof.Proof.Value.Laws
public import Idealize.ShloMosaic.PureOps.Ideal.Laws
public import Idealize.ShloMosaic.Lib.WordCmp
public import Idealize.ShloMosaic.PureOps.IdealRules

@[expose] public section

noncomputable section

namespace Cert.Phasor

open Idealize.ShloMosaic Cert.KernelIdeal Cert.KernelIdeal.Gen

/-- An entry of the eight value columns, and zero beyond them. -/
def padded (f : Fin 8 → EReal) (v : Fin 128) : EReal := if h : v.val < 8 then f ⟨v.val, h⟩ else 0

/-- The arrays the kernel reads whole hold the model's weights: each layer's in its columns of the joined projection, the value
    columns and the key-value rows beyond the eighth zero. -/
structure Reads (A : Arrays) (w : Params Ideal) : Prop where
  ms : w.ms (ix2 0 0) = A.ms
  wv : ∀ (k d : Fin 512), w.wcat (ix2 k ⟨d.val, by omega⟩) = A.wv k d
  wm : ∀ (k d : Fin 512), w.wcat (ix2 k ⟨512 + d.val, by omega⟩) = A.wm k d
  wq : ∀ (k d : Fin 512), w.wcat (ix2 k ⟨1024 + d.val, by omega⟩) = A.wq k d
  wke : ∀ (k : Fin 512) (p : Fin 128), w.wcat (ix2 k ⟨1536 + p.val, by omega⟩) = A.wke k p
  wve : ∀ (k : Fin 512) (v : Fin 128), w.wcat (ix2 k ⟨1664 + v.val, by omega⟩) = padded (A.wve k) v
  wg : ∀ k : Fin 512, w.wcat (ix2 k ⟨1792, by omega⟩) = A.wg k
  bv : ∀ d : Fin 512, w.bcat (ix2 0 ⟨d.val, by omega⟩) = A.bv d
  bm : ∀ d : Fin 512, w.bcat (ix2 0 ⟨512 + d.val, by omega⟩) = A.bm d
  bq : ∀ d : Fin 512, w.bcat (ix2 0 ⟨1024 + d.val, by omega⟩) = A.bq d
  bke : ∀ p : Fin 128, w.bcat (ix2 0 ⟨1536 + p.val, by omega⟩) = A.bke p
  bve : ∀ v : Fin 128, w.bcat (ix2 0 ⟨1664 + v.val, by omega⟩) = padded A.bve v
  bg : w.bcat (ix2 0 ⟨1792, by omega⟩) = A.bg
  wo : ∀ k d, w.wo (ix2 k d) = A.wo k d
  bo : ∀ d, w.bo (ix2 0 d) = A.bo d
  ws1 : ∀ k d, w.ws1 (ix2 k d) = A.ws1 k d
  bs1 : ∀ d, w.bs1 (ix2 0 d) = A.bs1 d
  ws2 : ∀ k d, w.ws2 (ix2 k d) = A.ws2 k d
  bs2 : ∀ d, w.bs2 (ix2 0 d) = A.bs2 d
  wkv : ∀ v d, w.wkv (ix2 v d) = padded (fun u => A.wkv u d) v
  bkv : ∀ d, w.bkv (ix2 0 d) = A.bkv d
  lng : ∀ d, w.lng (ix2 0 d) = A.lng d
  lnb : ∀ d, w.lnb (ix2 0 d) = A.lnb d
  wt1 : ∀ k d, w.wt1 (ix2 k d) = A.wt1 k d
  bt1 : ∀ d, w.bt1 (ix2 0 d) = A.bt1 d
  wt2 : ∀ k d, w.wt2 (ix2 k d) = A.wt2 k d
  bt2 : ∀ d, w.bt2 (ix2 0 d) = A.bt2 d

/-- The carried row holds the sums of the rows before row `n`. -/
structure CarryAt (A : Arrays) (n : ℕ) (v : Vec Ideal S1x2176 .f32) : Prop where
  c : ∀ d : Fin 512, v (ix2 0 ⟨d.val, by omega⟩) = sumTo (fun s => A.boundC s d) n
  s : ∀ d : Fin 512, v (ix2 0 ⟨512 + d.val, by omega⟩) = sumTo (fun s => A.boundS s d) n
  m : ∀ d : Fin 512, v (ix2 0 ⟨1024 + d.val, by omega⟩) = sumTo (fun s => A.mag s d) n
  x : ∀ d : Fin 512, v (ix2 0 ⟨1536 + d.val, by omega⟩) = sumTo (fun s => A.x s d) n
  g : ∀ p : Fin 128, v (ix2 0 ⟨2048 + p.val, by omega⟩) = sumTo A.gate n

/-- The carried state holds the key-value sums of the rows before row `n`. -/
structure StateAt (A : Arrays) (n : ℕ) (v : Vec Ideal S256x128 .f32) : Prop where
  c : ∀ (p v' : Fin 128), v (ix2 ⟨p.val, by omega⟩ v') = sumTo (fun s => Ideal.cos (A.sp s p) * padded (A.gv s) v') n
  s : ∀ (p v' : Fin 128), v (ix2 ⟨128 + p.val, by omega⟩ v') = sumTo (fun s => Ideal.sin (A.sp s p) * padded (A.gv s) v') n

/-- The sub-block at row `n` reads the model's rows, and what the rows before it left. -/
structure RowsAt (A : Arrays) (n : ℕ) (r : Rows Ideal) : Prop where
  x : ∀ (j : Fin 256) (d : Fin 512), r.x (ix3 0 j d) = A.x (n + j.val) d
  c : ∀ (j : Fin 256) (d : Fin 512), r.c (ix2 j d) = Ideal.cos (A.phi (n + j.val) d)
  s : ∀ (j : Fin 256) (d : Fin 512), r.s (ix2 j d) = Ideal.sin (A.phi (n + j.val) d)
  carry : CarryAt A n r.carry
  state : StateAt A n r.state
  first : r.first = BitVec.ofNat 32 (n + 1)
  le : n + 256 ≤ 4096

/-- The inputs whose finiteness the kernel's forms need. -/
structure Finite (A : Arrays) : Prop where
  x : ∀ t d, ∃ e : ℝ, A.x t d = e
  phi : ∀ t d, ∃ e : ℝ, A.phi t d = e
  wq : ∀ k d, ∃ e : ℝ, A.wq k d = e
  bq : ∀ d, ∃ e : ℝ, A.bq d = e
  wve : ∀ k d, ∃ e : ℝ, A.wve k d = e
  bve : ∀ d, ∃ e : ℝ, A.bve d = e

variable {A : Arrays} {w : Params Ideal} {r : Rows Ideal} {n : ℕ}

/-- A projection's entry. -/
theorem proj_at (j : Fin 256) (c : Fin 1920) :
    proj w r (ix2 j c) = ∑ k : Fin 512, r.x (ix3 0 j k) * w.wcat (ix2 k c) + w.bcat (ix2 0 c) := by
  pointwise [proj, rowsX]

/-- The triangle's entry. -/
theorem tri_at (j k : Fin 256) : tri (F := Ideal) (ix2 j k) = if k ≤ j then 1 else 0 := by
  pointwise [tri]
  rw [WordCmp.cmpi_sge_ofNat (by have := j.isLt; omega) (by have := k.isLt; omega)]
  by_cases h : k ≤ j
  · rw [if_pos h, decide_eq_true (by exact h)]
    show (((BitVec.setWidth 32 (BitVec.ofBool true)).toInt : ℝ) : EReal) = 1
    rw [show (BitVec.setWidth 32 (BitVec.ofBool true)).toInt = 1 from by decide]
    simp
  · rw [if_neg h, decide_eq_false (by exact h)]
    show (((BitVec.setWidth 32 (BitVec.ofBool false)).toInt : ℝ) : EReal) = 0
    rw [show (BitVec.setWidth 32 (BitVec.ofBool false)).toInt = 0 from by decide]
    simp

/-- A running sum's entry. -/
theorem sums_at (j : Fin 256) (c : Fin 2176) :
    sums w r (ix2 j c) = (∑ k : Fin 256, if k ≤ j then summands w r (ix2 k c) else 0) + r.carry (ix2 0 c) := by
  have h : sums w r (ix2 j c) = ∑ k : Fin 256, tri (F := Ideal) (ix2 j k) * summands w r (ix2 k c) + r.carry (ix2 0 c) := by
    pointwise [sums]
  rw [h]
  simp only [tri_at, ite_mul, one_mul, zero_mul]

section
variable (hw : Reads A w) (hr : RowsAt A n r)
include hw hr

theorem magn_eq (j : Fin 256) (d : Fin 512) : magn w r (ix2 j d) = A.mag (n + j.val) d := by
  have h : magn w r (ix2 j d) = Ideal.logistic (proj w r (ix2 j ⟨512 + d.val, by omega⟩)) * max (w.ms (ix2 0 0)) (-w.ms (ix2 0 0)) := by
    pointwise [magn]
    rfl
  rw [h, proj_at, hw.ms]
  simp only [hr.x, hw.wm, hw.bm]
  rfl

theorem weighted_eq (j : Fin 256) (d : Fin 512) : weighted w r (ix2 j d) = A.wval (n + j.val) d := by
  have h : weighted w r (ix2 j d) = magn w r (ix2 j d) * proj w r (ix2 j ⟨d.val, by omega⟩) := by
    pointwise [weighted]
  rw [h, proj_at, magn_eq hw hr]
  simp only [hr.x, hw.wv, hw.bv]
  rfl

theorem gate_eq (j : Fin 256) (p : Fin 128) : gate w r (ix2 j p) = A.gate (n + j.val) := by
  have h : gate w r (ix2 j p) = Ideal.logistic (proj w r (ix2 j ⟨1792, by omega⟩)) := by
    pointwise [gate]
  rw [h, proj_at]
  simp only [hr.x, hw.wg, hw.bg]
  rfl

theorem summandsC (j : Fin 256) (d : Fin 512) : summands w r (ix2 j ⟨d.val, by omega⟩) = A.boundC (n + j.val) d := by
  have h : summands w r (ix2 j ⟨d.val, by omega⟩) = weighted w r (ix2 j d) * r.c (ix2 j d) := by
    pointwise [summands, rowsC]
  rw [h, weighted_eq hw hr, hr.c]
  rfl

theorem summandsS (j : Fin 256) (d : Fin 512) : summands w r (ix2 j ⟨512 + d.val, by omega⟩) = A.boundS (n + j.val) d := by
  have h : summands w r (ix2 j ⟨512 + d.val, by omega⟩) = weighted w r (ix2 j d) * r.s (ix2 j d) := by
    pointwise [summands, rowsS]
  rw [h, weighted_eq hw hr, hr.s]
  rfl

theorem summandsM (j : Fin 256) (d : Fin 512) : summands w r (ix2 j ⟨1024 + d.val, by omega⟩) = A.mag (n + j.val) d := by
  have h : summands w r (ix2 j ⟨1024 + d.val, by omega⟩) = magn w r (ix2 j d) := by
    pointwise [summands]
    rw [dif_neg (by omega), dif_neg (by omega), dif_pos (by omega)]
    exact congrArg (fun e => magn w r (ix2 j e)) (Fin.ext (by dsimp only; omega))
  rw [h, magn_eq hw hr]

theorem summandsX (j : Fin 256) (d : Fin 512) : summands w r (ix2 j ⟨1536 + d.val, by omega⟩) = A.x (n + j.val) d := by
  have h : summands w r (ix2 j ⟨1536 + d.val, by omega⟩) = r.x (ix3 0 j d) := by
    pointwise [summands, rowsX]
    rw [dif_neg (by omega), dif_neg (by omega), dif_neg (by omega), dif_pos (by omega)]
    exact congrArg (fun e => r.x (ix3 0 j e)) (Fin.ext (by dsimp only; omega))
  rw [h, hr.x]

theorem summandsG (j : Fin 256) (p : Fin 128) : summands w r (ix2 j ⟨2048 + p.val, by omega⟩) = A.gate (n + j.val) := by
  have h : summands w r (ix2 j ⟨2048 + p.val, by omega⟩) = gate w r (ix2 j p) := by
    pointwise [summands]
    rw [dif_neg (by omega), dif_neg (by omega), dif_neg (by omega), dif_neg (by omega)]
    exact congrArg (fun e => gate w r (ix2 j e)) (Fin.ext (by dsimp only; omega))
  rw [h, gate_eq hw hr]

/-- The running sums are the model's, through the row. -/
theorem sumsC (j : Fin 256) (d : Fin 512) : sums w r (ix2 j ⟨d.val, by omega⟩) = A.cumC (n + j.val) d := by
  rw [sums_at, hr.carry.c]
  simp only [summandsC hw hr]
  exact sumTo_block (fun s => A.boundC s d) n j

theorem sumsS (j : Fin 256) (d : Fin 512) : sums w r (ix2 j ⟨512 + d.val, by omega⟩) = A.cumS (n + j.val) d := by
  rw [sums_at, hr.carry.s]
  simp only [summandsS hw hr]
  exact sumTo_block (fun s => A.boundS s d) n j

theorem sumsM (j : Fin 256) (d : Fin 512) : sums w r (ix2 j ⟨1024 + d.val, by omega⟩) = A.cumM (n + j.val) d := by
  rw [sums_at, hr.carry.m]
  simp only [summandsM hw hr]
  exact sumTo_block (fun s => A.mag s d) n j

theorem sumsX (j : Fin 256) (d : Fin 512) : sums w r (ix2 j ⟨1536 + d.val, by omega⟩) = A.cumX (n + j.val) d := by
  rw [sums_at, hr.carry.x]
  simp only [summandsX hw hr]
  exact sumTo_block (fun s => A.x s d) n j

theorem sumsG (j : Fin 256) (p : Fin 128) : sums w r (ix2 j ⟨2048 + p.val, by omega⟩) = A.cumG (n + j.val) := by
  rw [sums_at, hr.carry.g]
  simp only [summandsG hw hr]
  exact sumTo_block A.gate n j

/-- The row carried on holds the sums through the sub-block's last row. -/
theorem nextCarry_at : CarryAt A (n + 256) (nextCarry w r) := by
  have h : ∀ c : Fin 2176, nextCarry w r (ix2 0 c) = sums w r (ix2 ⟨255, by omega⟩ c) := fun c => by
    pointwise [nextCarry]
  exact ⟨fun d => (h _).trans (sumsC hw hr _ d), fun d => (h _).trans (sumsS hw hr _ d), fun d => (h _).trans (sumsM hw hr _ d),
    fun d => (h _).trans (sumsX hw hr _ d), fun p => (h _).trans (sumsG hw hr _ p)⟩

end

/-- The magnitudes are not negative, so the sum under the root is positive. -/
theorem cumM_pos (t : ℕ) (d : Fin 512) : 0 < A.cumM t d + cTiny := by
  obtain ⟨e, he, h⟩ := tiny_real
  have h0 : 0 ≤ A.cumM t d := sumTo_nonneg (fun s => mul_nonneg
    (by obtain ⟨r, hr, hl⟩ := logistic_real (lin (A.x s) A.wm A.bm d); rw [hl]; exact_mod_cast hr)
    (by rcases le_total 0 A.ms with h | h
        · exact le_max_of_le_left h
        · exact le_max_of_le_right (EReal.neg_nonneg.mpr h))) _
  rw [h]
  have he' : (0 : EReal) < e := by exact_mod_cast he
  exact lt_of_lt_of_le he' (le_add_of_nonneg_left h0)

/-- A linear layer of reals is real. -/
theorem lin_real {a b : ℕ} {x : Fin a → EReal} {m : Fin a → Fin b → EReal} {c : Fin b → EReal} (hx : ∀ k, ∃ e : ℝ, x k = e)
    (hm : ∀ k j, ∃ e : ℝ, m k j = e) (hc : ∀ j, ∃ e : ℝ, c j = e) (j : Fin b) : ∃ e : ℝ, lin x m c j = e := by
  choose x' hx using hx
  choose m' hm using hm
  choose c' hc using hc
  refine ⟨∑ k, x' k * m' k j + c' j, ?_⟩
  simp only [lin, hx, hm, hc, ← EReal.coe_mul, sum_coe, ← EReal.coe_add]

section
variable (hf : Finite A) (hw : Reads A w) (hr : RowsAt A n r)
include hf hw hr

theorem posRet_eq (j : Fin 256) (d : Fin 512) : posRet w r (ix2 j d) = A.posRet (n + j.val) d := by
  have hq : dphase w r (ix2 j d) = A.dq (n + j.val) d := by
    have h : dphase w r (ix2 j d) = proj w r (ix2 j ⟨1024 + d.val, by omega⟩) := by pointwise [dphase]
    rw [h, proj_at]
    simp only [hr.x, hw.wq, hw.bq]
    rfl
  have hc : rowsC r (ix2 j d) = Ideal.cos (A.phi (n + j.val) d) := by
    have h : rowsC r (ix2 j d) = r.c (ix2 j d) := by pointwise [rowsC]
    rw [h, hr.c]
  have hs : rowsS r (ix2 j d) = Ideal.sin (A.phi (n + j.val) d) := by
    have h : rowsS r (ix2 j d) = r.s (ix2 j d) := by pointwise [rowsS]
    rw [h, hr.s]
  have hk : (Named.named κ "inv_sqrt_512" 0x3D3504F3#32 : Ideal .f32) = ((524288 / 11863283 : ℝ) : EReal) :=
    IdealRules.named_const.ideal_named_scalar _ _ _ _ rfl
  obtain ⟨p, hp⟩ := hf.phi (n + j.val) d
  obtain ⟨q, hq'⟩ := lin_real (hf.x (n + j.val)) hf.wq hf.bq d
  pointwise [posRet]
  rw [sumsC hw hr, sumsS hw hr, sumsM hw hr, hq, hc, hs, Arrays.posRet]
  refine Eq.trans ?_ ((posRet_law (A.cumC (n + j.val) d) (A.cumS (n + j.val) d) p q (cumM_pos (A := A) (n + j.val) d)).trans ?_)
  · rw [show A.dq (n + j.val) d = q from hq', hp]
    exact congrArg _ hk
  · rw [show A.dq (n + j.val) d = q from hq', hp]

theorem posOut_eq (j : Fin 256) (d : Fin 512) : posOut w r (ix2 j d) = A.posOut (n + j.val) d := by
  pointwise [posOut]
  simp only [posRet_eq hf hw hr, hw.wo, hw.bo]
  rfl

end

end Cert.Phasor

end
-- ==== Proof.Value.Host.lean ====
/-
  What the host computes between the two kernels: the parameters padded, laid side by side and made rows.
-/
module

public import proofs.«01_k».proof.Proof.Kern.Whole
public import proofs.«01_k».proof.Proof.Value.Pos
public import Idealize.ShloMosaic.Lib.Pointwise

@[expose] public section

set_option maxRecDepth 16384

noncomputable section

namespace Cert.Phasor

open Cert.KernelIdeal Cert.KernelIdeal.Gen
open Idealize.ShloMosaic Idealize.ShloMosaic.TcCoe Idealize.ShloMosaic.Tactic

variable (m : (ℓ : Loc nD τ sig) → Buf (Elt Ideal) ℓ) (outs : Outs (F := Ideal)) (c : Dev nD)

/-- The buffers the first ten stretches write. -/
abbrev padRefs : List (Ref sig .tc) :=
  hostOps1_W ++ hostOps1_1_W ++ hostOps1_2_W ++ hostOps1_3_W ++ hostOps1_4_W ++ hostOps1_5_W ++ hostOps1_6_W ++ hostOps1_7_W ++ hostOps1_8_W ++ hostOps1_9_W

theorem V11_arg (r : Ref sig .tc) (h : r ∉ ([main_v0_0, main_v0_1] : List (Ref sig .tc)) ++ padRefs) : V11 m outs c r = V0 m c r := by
  simp only [padRefs, List.mem_append, not_or] at h
  obtain ⟨h1, ⟨⟨⟨⟨⟨⟨⟨⟨⟨h2, h3⟩, h4⟩, h5⟩, h6⟩, h7⟩, h8⟩, h9⟩, h10⟩, h11⟩⟩ := h
  rw [V11_of m outs c r h11, V10_of m outs c r h10, V9_of m outs c r h9, V8_of m outs c r h8, V7_of m outs c r h7, V6_of m outs c r h6,
    V5_of m outs c r h5, V4_of m outs c r h4, V3_of m outs c r h3, V2_of m outs c r h2, V1_of m outs c r h1]

theorem V12_arg (r : Ref sig .tc) (h : r ∉ ([main_v0_0, main_v0_1] : List (Ref sig .tc)) ++ padRefs) (h12 : r ∉ hostOps1_10_W) : V12 m outs c r = V0 m c r :=
  (V12_of m outs c r h12).trans (V11_arg m outs c r h)

/-! ## One operation at an index -/

/-- A pad's fill. -/
abbrev fill : FVec Ideal S_ .f32 := sitofp .f32 (constantI S_ 32 0#32)

theorem fill_at : FloatOps.sitofp (F := Ideal) FTy.f32 (0#32) = 0 := by
  show (((0#32 : BitVec 32).toInt : ℝ) : EReal) = 0
  simp

theorem pad_cols (x : FVec Ideal S512x8 .f32) (k : Fin 512) (v : Fin 128) :
    pad S512x128 ![0, 0] ![0, 120] ![0, 0] x fill pads_S512x8_S512x128_000_01200 h_S_ (ix2 k v) = padded (fun u => x (ix2 k u)) v := by
  pointwise
  rw [fill_at]
  rfl

theorem pad_row (x : FVec Ideal S1x8 .f32) (v : Fin 128) :
    pad S1x128 ![0, 0] ![0, 120] ![0, 0] x fill pads_S1x8_S1x128_000_01200 h_S_ (ix2 0 v) = padded (fun u => x (ix2 0 u)) v := by
  pointwise
  rw [fill_at]
  rfl

theorem pad_rows (x : FVec Ideal S8x512 .f32) (v : Fin 128) (d : Fin 512) :
    pad S128x512 ![0, 0] ![120, 0] ![0, 0] x fill pads_S8x512_S128x512_01200_000 h_S_ (ix2 v d) = padded (fun u => x (ix2 u d)) v := by
  pointwise
  rw [fill_at]
  rfl

theorem pad_gate (x : FVec Ideal S512x1 .f32) (k : Fin 512) :
    pad S512x128 ![0, 0] ![0, 127] ![0, 0] x fill pads_S512x1_S512x128_000_01270 h_S_ (ix2 k 0) = x (ix2 k 0) := by
  pointwise

theorem pad_gate_bias (x : FVec Ideal S1x1 .f32) :
    pad S1x128 ![0, 0] ![0, 127] ![0, 0] x fill pads_S1x1_S1x128_000_01270 h_S_ (ix2 0 0) = x (ix2 0 0) := by
  pointwise

theorem row512 (x : FVec Ideal S512 .f32) (d : Fin 512) : shapeCast S1x512 x shapeCasts_S512_S1x512 (ix2 0 d) = x (ix1 d) := by pointwise
theorem row128 (x : FVec Ideal S128 .f32) (d : Fin 128) : shapeCast S1x128 x shapeCasts_S128_S1x128 (ix2 0 d) = x (ix1 d) := by pointwise
theorem row1024 (x : FVec Ideal S1024 .f32) (d : Fin 1024) : shapeCast S1x1024 x shapeCasts_S1024_S1x1024 (ix2 0 d) = x (ix1 d) := by pointwise
theorem row8 (x : FVec Ideal S8 .f32) (d : Fin 8) : shapeCast S1x8 x shapeCasts_S8_S1x8 (ix2 0 d) = x (ix1 d) := by pointwise
theorem row_one (x : FVec Ideal S1 .f32) : shapeCast S1x1 x shapeCasts_S1_S1x1 (ix2 0 0) = x (ix1 0) := by pointwise
theorem one_entry (x : FVec Ideal S_ .f32) : shapeCast S1x1 x shapeCasts_S_S1x1 (ix2 0 0) = x ix0 := by pointwise

/-- The columns of the weights side by side. -/
theorem beside_cols (x0 x1 x2 : FVec Ideal S512x512 .f32) (x3 x4 x5 : FVec Ideal S512x128 .f32) (k : Fin 512) {y : FVec Ideal S512x1920 .f32}
    (hy : y = concatenate S512x1920 1 [⟨S512x512, x0⟩, ⟨S512x512, x1⟩, ⟨S512x512, x2⟩, ⟨S512x128, x3⟩, ⟨S512x128, x4⟩, ⟨S512x128, x5⟩]
      concatenates_S512x512_S512x512_S512x512_S512x128_S512x128_S512x128_S512x1920_d1) :
    (∀ d : Fin 512, y (ix2 k ⟨d.val, by omega⟩) = x0 (ix2 k d)) ∧ (∀ d : Fin 512, y (ix2 k ⟨512 + d.val, by omega⟩) = x1 (ix2 k d))
      ∧ (∀ d : Fin 512, y (ix2 k ⟨1024 + d.val, by omega⟩) = x2 (ix2 k d)) ∧ (∀ p : Fin 128, y (ix2 k ⟨1536 + p.val, by omega⟩) = x3 (ix2 k p))
      ∧ (∀ p : Fin 128, y (ix2 k ⟨1664 + p.val, by omega⟩) = x4 (ix2 k p)) ∧ y (ix2 k ⟨1792, by omega⟩) = x5 (ix2 k 0) := by
  subst hy
  refine ⟨?_, ?_, ?_, ?_, ?_, ?_⟩ <;> (try intro d) <;> pointwise
  all_goals
    repeat rw [dif_neg (by omega)]
    rw [dif_pos (by omega)]
    congr 2
    apply Fin.ext
    dsimp only
    omega

/-- The entries of the biases side by side. -/
theorem beside_row (x0 x1 x2 : FVec Ideal S1x512 .f32) (x3 x4 x5 : FVec Ideal S1x128 .f32) {y : FVec Ideal S1x1920 .f32}
    (hy : y = concatenate S1x1920 1 [⟨S1x512, x0⟩, ⟨S1x512, x1⟩, ⟨S1x512, x2⟩, ⟨S1x128, x3⟩, ⟨S1x128, x4⟩, ⟨S1x128, x5⟩]
      concatenates_S1x512_S1x512_S1x512_S1x128_S1x128_S1x128_S1x1920_d1) :
    (∀ d : Fin 512, y (ix2 0 ⟨d.val, by omega⟩) = x0 (ix2 0 d)) ∧ (∀ d : Fin 512, y (ix2 0 ⟨512 + d.val, by omega⟩) = x1 (ix2 0 d))
      ∧ (∀ d : Fin 512, y (ix2 0 ⟨1024 + d.val, by omega⟩) = x2 (ix2 0 d)) ∧ (∀ p : Fin 128, y (ix2 0 ⟨1536 + p.val, by omega⟩) = x3 (ix2 0 p))
      ∧ (∀ p : Fin 128, y (ix2 0 ⟨1664 + p.val, by omega⟩) = x4 (ix2 0 p)) ∧ y (ix2 0 ⟨1792, by omega⟩) = x5 (ix2 0 0) := by
  subst hy
  refine ⟨?_, ?_, ?_, ?_, ?_, ?_⟩ <;> (try intro d) <;> pointwise
  all_goals
    repeat rw [dif_neg (by omega)]
    rw [dif_pos (by omega)]
    congr 2
    apply Fin.ext
    dsimp only
    omega

/-! ## The buffers -/

/-- The biases and the normalisation's arrays as rows. -/
theorem host_rows : (∀ d, V12 m outs c main_v10 (ix2 0 d) = V0 m c main_arg4 (ix1 d)) ∧ (∀ d, V12 m outs c main_v11 (ix2 0 d) = V0 m c main_arg8 (ix1 d))
    ∧ (∀ d, V12 m outs c main_v12 (ix2 0 d) = V0 m c main_arg10 (ix1 d)) ∧ (∀ d, V12 m outs c main_v13 (ix2 0 d) = V0 m c main_arg12 (ix1 d))
    ∧ (∀ d, V12 m outs c main_v15 (ix2 0 d) = V0 m c main_arg6 (ix1 d)) ∧ (∀ d, V12 m outs c main_v16 (ix2 0 d) = V0 m c main_arg16 (ix1 d))
    ∧ (∀ d, V12 m outs c main_v17 (ix2 0 d) = V0 m c main_arg18 (ix1 d)) ∧ (∀ d, V12 m outs c main_v18 (ix2 0 d) = V0 m c main_arg22 (ix1 d))
    ∧ (∀ d, V12 m outs c main_v19 (ix2 0 d) = V0 m c main_arg23 (ix1 d)) ∧ (∀ d, V12 m outs c main_v20 (ix2 0 d) = V0 m c main_arg24 (ix1 d))
    ∧ (∀ d, V12 m outs c main_v21 (ix2 0 d) = V0 m c main_arg26 (ix1 d)) ∧ (∀ d, V12 m outs c main_v22 (ix2 0 d) = V0 m c main_arg28 (ix1 d)) := by
  refine ⟨?_, ?_, ?_, ?_, ?_, ?_, ?_, ?_, ?_, ?_, ?_, ?_⟩ <;> intro d <;> show StableHlo.after hostOps1_10 _ _ _ = _ <;> after_results <;>
    rw [V1_of m outs c _ (by decide)] <;> first | exact row512 _ d | exact row128 _ d | exact row1024 _ d

/-- The magnitude's scale as a matrix of one entry. -/
theorem host_ms : V12 m outs c main_v1 (ix2 0 0) = V0 m c main_arg2 ix0 := by
  show StableHlo.after hostOps1_10 _ _ _ = _
  after_results
  rw [V1_of m outs c _ (by decide)]
  exact one_entry _

/-- The padded arrays. -/
theorem host_pads : (∀ k v, V12 m outs c main_v2 (ix2 k v) = padded (fun u => V0 m c main_arg13 (ix2 k u)) v)
    ∧ (∀ v, V12 m outs c main_v4 (ix2 0 v) = padded (fun u => V0 m c main_arg14 (ix1 u)) v)
    ∧ (∀ v d, V12 m outs c main_v5 (ix2 v d) = padded (fun u => V0 m c main_arg21 (ix2 u d)) v)
    ∧ (∀ k, V12 m outs c main_v6 (ix2 k 0) = V0 m c main_arg19 (ix2 k 0)) ∧ V12 m outs c main_v8 (ix2 0 0) = V0 m c main_arg20 (ix1 0) := by
  refine ⟨fun k v => ?_, fun v => ?_, fun v d => ?_, fun k => ?_, ?_⟩ <;> show StableHlo.after hostOps1_10 _ _ _ = _ <;> after_results <;>
    rw [V1_of m outs c _ (by decide)]
  · exact pad_cols _ k v
  · refine (pad_row _ v).trans ?_
    exact congrArg (fun f => padded f v) (funext fun u => row8 _ u)
  · exact pad_rows _ v d
  · exact pad_gate _ k
  · exact (pad_gate_bias _).trans (row_one _)

theorem host_v9 : V12 m outs c main_v9 = concatenate S512x1920 1 [⟨S512x512, (V12 m outs c main_arg3 : FVec Ideal S512x512 .f32)⟩, ⟨S512x512, (V12 m outs c main_arg7 : FVec Ideal S512x512 .f32)⟩,
    ⟨S512x512, (V12 m outs c main_arg9 : FVec Ideal S512x512 .f32)⟩, ⟨S512x128, (V12 m outs c main_arg11 : FVec Ideal S512x128 .f32)⟩,
    ⟨S512x128, (V12 m outs c main_v2 : FVec Ideal S512x128 .f32)⟩, ⟨S512x128, (V12 m outs c main_v6 : FVec Ideal S512x128 .f32)⟩] concatenates_S512x512_S512x512_S512x512_S512x128_S512x128_S512x128_S512x1920_d1 := by
  rw [V12_of m outs c main_arg3 (by decide), V12_of m outs c main_arg7 (by decide), V12_of m outs c main_arg9 (by decide), V12_of m outs c main_arg11 (by decide),
    V12_of m outs c main_v2 (by decide), V12_of m outs c main_v6 (by decide)]
  show StableHlo.after hostOps1_10 (V11 m outs c) _ = _
  generalize V11 m outs c = V
  after_results
  rfl

/-- The six rows, the first of them read through the list of the six buffers. -/
theorem six_rows (W : Valuation τ sig (Elt Ideal)) :
    concatenate S1x1920 1 [⟨S1x512, ((fun k => W (![main_v10, main_v11, main_v12, main_v13, main_v4, main_v8] k) : (k : Fin 6) → (![main_v10, main_v11, main_v12, main_v13, main_v4, main_v8] k).ty.Contents (Elt Ideal)) 0 : FVec Ideal S1x512 .f32)⟩,
      ⟨S1x512, (W main_v11 : FVec Ideal S1x512 .f32)⟩, ⟨S1x512, (W main_v12 : FVec Ideal S1x512 .f32)⟩, ⟨S1x128, (W main_v13 : FVec Ideal S1x128 .f32)⟩,
      ⟨S1x128, (W main_v4 : FVec Ideal S1x128 .f32)⟩, ⟨S1x128, (W main_v8 : FVec Ideal S1x128 .f32)⟩] concatenates_S1x512_S1x512_S1x512_S1x128_S1x128_S1x128_S1x1920_d1
    = concatenate S1x1920 1 [⟨S1x512, (W main_v10 : FVec Ideal S1x512 .f32)⟩, ⟨S1x512, (W main_v11 : FVec Ideal S1x512 .f32)⟩,
      ⟨S1x512, (W main_v12 : FVec Ideal S1x512 .f32)⟩, ⟨S1x128, (W main_v13 : FVec Ideal S1x128 .f32)⟩,
      ⟨S1x128, (W main_v4 : FVec Ideal S1x128 .f32)⟩, ⟨S1x128, (W main_v8 : FVec Ideal S1x128 .f32)⟩] concatenates_S1x512_S1x512_S1x512_S1x128_S1x128_S1x128_S1x1920_d1 := rfl

theorem host_v14 : V12 m outs c main_v14 = concatenate S1x1920 1 [⟨S1x512, (V12 m outs c main_v10 : FVec Ideal S1x512 .f32)⟩, ⟨S1x512, (V12 m outs c main_v11 : FVec Ideal S1x512 .f32)⟩,
    ⟨S1x512, (V12 m outs c main_v12 : FVec Ideal S1x512 .f32)⟩, ⟨S1x128, (V12 m outs c main_v13 : FVec Ideal S1x128 .f32)⟩,
    ⟨S1x128, (V12 m outs c main_v4 : FVec Ideal S1x128 .f32)⟩, ⟨S1x128, (V12 m outs c main_v8 : FVec Ideal S1x128 .f32)⟩] concatenates_S1x512_S1x512_S1x512_S1x128_S1x128_S1x128_S1x1920_d1 := by
  dsimp only [V12]
  generalize V11 m outs c = V
  after_results
  refine (six_rows _).trans ?_
  after_results

end Cert.Phasor

end
-- ==== Proof.Value.Inputs.lean ====
/-
  The 29 arguments, and one batch of them as the model's arrays.
-/
module

public import proofs.«01_k».proof.Proof.Value.Model

@[expose] public section

noncomputable section

namespace Cert.Phasor

open Idealize.ShloMosaic

/-- The arguments, in their order. -/
structure Inputs where
  x : FVec Ideal ⟨3, ![4, 4096, 512]⟩ .f32
  phi : FVec Ideal ⟨2, ![4096, 512]⟩ .f32
  ms : FVec Ideal ⟨0, ![]⟩ .f32
  wv : FVec Ideal ⟨2, ![512, 512]⟩ .f32
  bv : FVec Ideal ⟨1, ![512]⟩ .f32
  wo : FVec Ideal ⟨2, ![512, 512]⟩ .f32
  bo : FVec Ideal ⟨1, ![512]⟩ .f32
  wm : FVec Ideal ⟨2, ![512, 512]⟩ .f32
  bm : FVec Ideal ⟨1, ![512]⟩ .f32
  wq : FVec Ideal ⟨2, ![512, 512]⟩ .f32
  bq : FVec Ideal ⟨1, ![512]⟩ .f32
  wke : FVec Ideal ⟨2, ![512, 128]⟩ .f32
  bke : FVec Ideal ⟨1, ![128]⟩ .f32
  wve : FVec Ideal ⟨2, ![512, 8]⟩ .f32
  bve : FVec Ideal ⟨1, ![8]⟩ .f32
  ws1 : FVec Ideal ⟨2, ![1024, 512]⟩ .f32
  bs1 : FVec Ideal ⟨1, ![512]⟩ .f32
  ws2 : FVec Ideal ⟨2, ![512, 128]⟩ .f32
  bs2 : FVec Ideal ⟨1, ![128]⟩ .f32
  wg : FVec Ideal ⟨2, ![512, 1]⟩ .f32
  bg : FVec Ideal ⟨1, ![1]⟩ .f32
  wkv : FVec Ideal ⟨2, ![8, 512]⟩ .f32
  bkv : FVec Ideal ⟨1, ![512]⟩ .f32
  lng : FVec Ideal ⟨1, ![1024]⟩ .f32
  lnb : FVec Ideal ⟨1, ![1024]⟩ .f32
  wt1 : FVec Ideal ⟨2, ![1024, 1024]⟩ .f32
  bt1 : FVec Ideal ⟨1, ![1024]⟩ .f32
  wt2 : FVec Ideal ⟨2, ![1024, 512]⟩ .f32
  bt2 : FVec Ideal ⟨1, ![512]⟩ .f32

/-- A row's number as an index. -/
def row (t : ℕ) : Fin 4096 := ⟨t % 4096, Nat.mod_lt _ (by decide)⟩

theorem row_val (t : Fin 4096) : row t.val = t := Fin.ext (Nat.mod_eq_of_lt t.isLt)

/-- One batch. -/
def Inputs.batch (I : Inputs) (b : Fin 4) : Arrays where
  x := fun t d => I.x (ix3 b (row t) d)
  phi := fun t d => I.phi (ix2 (row t) d)
  ms := I.ms ix0
  wv := fun k d => I.wv (ix2 k d)
  bv := fun d => I.bv (ix1 d)
  wo := fun k d => I.wo (ix2 k d)
  bo := fun d => I.bo (ix1 d)
  wm := fun k d => I.wm (ix2 k d)
  bm := fun d => I.bm (ix1 d)
  wq := fun k d => I.wq (ix2 k d)
  bq := fun d => I.bq (ix1 d)
  wke := fun k d => I.wke (ix2 k d)
  bke := fun d => I.bke (ix1 d)
  wve := fun k d => I.wve (ix2 k d)
  bve := fun d => I.bve (ix1 d)
  ws1 := fun k d => I.ws1 (ix2 k d)
  bs1 := fun d => I.bs1 (ix1 d)
  ws2 := fun k d => I.ws2 (ix2 k d)
  bs2 := fun d => I.bs2 (ix1 d)
  wg := fun k => I.wg (ix2 k 0)
  bg := I.bg (ix1 0)
  wkv := fun k d => I.wkv (ix2 k d)
  bkv := fun d => I.bkv (ix1 d)
  lng := fun d => I.lng (ix1 d)
  lnb := fun d => I.lnb (ix1 d)
  wt1 := fun k d => I.wt1 (ix2 k d)
  bt1 := fun d => I.bt1 (ix1 d)
  wt2 := fun k d => I.wt2 (ix2 k d)
  bt2 := fun d => I.bt2 (ix1 d)

end Cert.Phasor

end
-- ==== Proof.Value.Windows.lean ====
/-
  What the windows of the two kernels hold at each point, at indices.
-/
module

public import proofs.«01_k».proof.Proof.Value.Host
public import proofs.«01_k».proof.Proof.Value.Inputs
public import Idealize.ShloMosaic.Lib.Pipeline.ValueKit

@[expose] public section

set_option maxRecDepth 16384

noncomputable section

namespace Cert.Phasor

open Cert.KernelIdeal Cert.KernelIdeal.Gen
open Idealize.ShloMosaic Idealize.ShloMosaic.TcCoe Idealize.ShloMosaic.Tactic

/-- Where the windows lie: the parameters' at the origin, the result's and `x`'s at (batch, block of rows), the tables' at the block
    of rows. -/
theorem index_params (t : Fin cfg1.N) : win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0] ∧ win1_11.index t = ![0, 0]
    ∧ win1_12.index t = ![0, 0] ∧ win1_13.index t = ![0, 0] ∧ win1_14.index t = ![0, 0] ∧ win1_15.index t = ![0, 0] ∧ win1_16.index t = ![0, 0]
    ∧ win1_17.index t = ![0, 0] ∧ win1_18.index t = ![0, 0] ∧ win1_19.index t = ![0, 0] := by
  refine ⟨?_, ?_, ?_, ?_, ?_, ?_, ?_, ?_, ?_, ?_, ?_, ?_, ?_, ?_, ?_, ?_, ?_⟩ <;> rfl

theorem index_x : ∀ t : Fin cfg1.N, win1_0.index t = ![t.val / 4, t.val % 4, 0] := (by decide +kernel : ∀ t : Fin grid1.N, win1_0.index t = ![t.val / 4, t.val % 4, 0])
theorem index_cos : ∀ t : Fin cfg1.N, win1_1.index t = ![t.val % 4, 0] := (by decide +kernel : ∀ t : Fin grid1.N, win1_1.index t = ![t.val % 4, 0])
theorem index_sin : ∀ t : Fin cfg1.N, win1_2.index t = ![t.val % 4, 0] := (by decide +kernel : ∀ t : Fin grid1.N, win1_2.index t = ![t.val % 4, 0])
theorem index_out : ∀ t : Fin cfg1.N, win1_20.index t = ![t.val / 4, t.val % 4, 0] := (by decide +kernel : ∀ t : Fin grid1.N, win1_20.index t = ![t.val / 4, t.val % 4, 0])
theorem index_phi : ∀ t : Fin cfg0.N, win0_0.index t = ![t.val, 0] := (by decide +kernel : ∀ t : Fin grid0.N, win0_0.index t = ![t.val, 0])
theorem index_ctab : ∀ t : Fin cfg0.N, win0_1.index t = ![t.val, 0] := (by decide +kernel : ∀ t : Fin grid0.N, win0_1.index t = ![t.val, 0])
theorem index_stab : ∀ t : Fin cfg0.N, win0_2.index t = ![t.val, 0] := (by decide +kernel : ∀ t : Fin grid0.N, win0_2.index t = ![t.val, 0])

variable (V : (c : Dev nD) → (b : Ref sig .tc) → Buf (Elt Ideal) ((c : Thread nD τ).loc b)) (c : Dev nD)

set_option maxHeartbeats 4000000 in
/-- Each parameter's window holds its whole array. -/
theorem params_whole (t : Fin cfg1.N) : paramsAt V c t = ⟨V c main_v1, V c main_v9, V c main_v14, V c main_arg5, V c main_v15, V c main_arg15, V c main_v16,
    V c main_arg17, V c main_v17, V c main_v5, V c main_v18, V c main_v19, V c main_v20, V c main_arg25, V c main_v21, V c main_arg27, V c main_v22⟩ := by
  obtain ⟨e3, e4, e5, e6, e7, e8, e9, e10, e11, e12, e13, e14, e15, e16, e17, e18, e19⟩ := index_params t
  unfold paramsAt
  rw [Params.mk.injEq]
  refine ⟨?_, ?_, ?_, ?_, ?_, ?_, ?_, ?_, ?_, ?_, ?_, ?_, ?_, ?_, ?_, ?_, ?_⟩ <;> funext y <;> blk_simp [iblk1] <;> refine congrArg _ ?_ <;> blk_ext [e3, e4, e5, e6, e7, e8, e9, e10, e11, e12, e13, e14, e15, e16, e17, e18, e19]

variable (t : Fin cfg1.N)

theorem t_lt : t.val < 16 := Nat.lt_of_lt_of_eq t.isLt N_1

theorem block_x (j : Fin 1024) (d : Fin 512) :
    iblk1 V c 0 t (ix3 0 j d) = V c main_arg0 (ix3 ⟨t.val / 4, by have := t_lt t; omega⟩ ⟨1024 * (t.val % 4) + j.val, by omega⟩ d) := by
  have e := index_x t
  blk_simp [iblk1]
  refine congrArg _ ?_
  blk_ext [e]

theorem block_cos (j : Fin 1024) (d : Fin 512) :
    iblk1 V c 1 t (ix2 j d) = V c main_v0_0 (ix2 ⟨1024 * (t.val % 4) + j.val, by omega⟩ d) := by
  have e := index_cos t
  blk_simp [iblk1]
  refine congrArg _ ?_
  blk_ext [e]

theorem block_sin (j : Fin 1024) (d : Fin 512) :
    iblk1 V c 2 t (ix2 j d) = V c main_v0_1 (ix2 ⟨1024 * (t.val % 4) + j.val, by omega⟩ d) := by
  have e := index_sin t
  blk_simp [iblk1]
  refine congrArg _ ?_
  blk_ext [e]

theorem cosBlock_at (x : Vec Ideal S512x512 .f32) (i : S512x512.Idx) : cosBlock x i = Ideal.cos (x i) := by
  unfold cosBlock all0
  rw [View.canon_unit_zero (funext fun a => by fin_cases a <;> rfl), View.ld_unit_zero (funext fun a => by fin_cases a <;> rfl)]
  rfl

theorem sinBlock_at (x : Vec Ideal S512x512 .f32) (i : S512x512.Idx) : sinBlock x i = Ideal.sin (x i) := by
  unfold sinBlock all0
  rw [View.canon_unit_zero (funext fun a => by fin_cases a <;> rfl), View.ld_unit_zero (funext fun a => by fin_cases a <;> rfl)]
  rfl

/-- The tables the first kernel leaves. -/
theorem cos_table : (dat0 V c).arrAt 1 cfg0.N = fun i => Ideal.cos (V c main_arg1 i) := by
  refine (dat0 V c).arrAt_eq_of_covers 1 _ (by decide +kernel) fun t hf y => ?_
  have e0 := index_phi t
  have e1 := index_ctab t
  blk_simp
  rw [after0_1]
  refine (cosBlock_at _ _).trans (congrArg Ideal.cos ?_)
  blk_simp [iblk0]
  refine congrArg _ ?_
  blk_ext [e0, e1]

theorem sin_table : (dat0 V c).arrAt 2 cfg0.N = fun i => Ideal.sin (V c main_arg1 i) := by
  refine (dat0 V c).arrAt_eq_of_covers 2 _ (by decide +kernel) fun t hf y => ?_
  have e0 := index_phi t
  have e1 := index_stab t
  blk_simp
  rw [after0_2]
  refine (sinBlock_at _ _).trans (congrArg Ideal.sin ?_)
  blk_simp [iblk0]
  refine congrArg _ ?_
  blk_ext [e0, e1]

/-- Where the second kernel's result comes from. -/
theorem result_at (G : FVec Ideal S4x4096x512 .f32)
    (h : ∀ (t : Fin cfg1.N) (j : Fin 1024) (d : Fin 512), outBlock (paramsAt V c t) (blocksAt V c t) (handAt V c t.val t.isLt) (ix3 0 j d)
      = G (ix3 ⟨t.val / 4, by have := t_lt t; omega⟩ ⟨1024 * (t.val % 4) + j.val, by omega⟩ d)) :
    (dat1 V c).arrAt 20 cfg1.N = G := by
  refine (dat1 V c).arrAt_eq_of_covers 20 G (by decide +kernel) fun t hf y => ?_
  have e := index_out t
  blk_simp
  rw [after1_20]
  obtain ⟨j, d, rfl⟩ : ∃ (j : Fin 1024) (d : Fin 512), y = (ix3 0 j d : S1x1024x512.Idx) := by
    refine ⟨⟨(y 1).val, (y 1).isLt⟩, ⟨(y 2).val, (y 2).isLt⟩, ?_⟩
    have h0 : (y 0).val < 1 := (y 0).isLt
    funext a
    match a with
    | ⟨0, _⟩ => exact Fin.ext (by show (y 0).val = 0; omega)
    | ⟨1, _⟩ => rfl
    | ⟨2, _⟩ => rfl
  refine (h t j d).trans ?_
  refine congrArg G ?_
  blk_ext [e]

end Cert.Phasor

end
-- ==== Proof.Value.Kv.lean ====
/-
  The kernel's step on one sub-block against the model, continued: the key-value memory.
-/
module

public import proofs.«01_k».proof.Proof.Value.Pos

@[expose] public section

noncomputable section

namespace Cert.Phasor

open Idealize.ShloMosaic Cert.KernelIdeal Cert.KernelIdeal.Gen

variable {A : Arrays} {w : Params Ideal} {r : Rows Ideal} {n : ℕ}

/-- The positions count from one. -/
theorem posn_eq (hr : RowsAt A n r) (j : Fin 256) : posn r (ix2 j 0) = (((n + j.val + 1 : ℕ) : ℝ) : EReal) := by
  pointwise [posn]
  rw [hr.first]
  have hle := hr.le
  have hj := j.isLt
  have h : IntOp.addi (BitVec.ofNat 32 j.val) (BitVec.ofNat 32 (n + 1)) = BitVec.ofNat 32 (n + j.val + 1) := by
    rw [WordCmp.addi_ofNat]
    congr 1
    omega
  rw [h]
  show (((BitVec.ofNat 32 (n + j.val + 1)).toInt : ℝ) : EReal) = _
  have e : (BitVec.ofNat 32 (n + j.val + 1)).toInt = ((n + j.val + 1 : ℕ) : ℤ) := by
    rw [BitVec.toInt_eq_toNat_of_lt (by rw [BitVec.toNat_ofNat]; omega), BitVec.toNat_ofNat, Nat.mod_eq_of_lt (by omega)]
  rw [e]
  norm_cast

/-- The gelu of the kernel's text at an index. -/
theorem gelu_at {s : Shape} (z : FVec Ideal s .f32) (i : s.Idx) : gelu z i = gelu1 (z i) := rfl

section
variable (hw : Reads A w) (hr : RowsAt A n r)
include hw hr

theorem context_eq (j : Fin 256) (d : Fin 512) : context w r (ix2 j d) = A.ctx (n + j.val) d := by
  have h : context w r (ix2 j d) = sums w r (ix2 j ⟨1536 + d.val, by omega⟩) * Ideal.div 1 (posn r (ix2 j 0)) := by
    pointwise [context]
  have h0 : ((n + j.val + 1 : ℕ) : ℝ) ≠ 0 := by positivity
  rw [h, sumsX hw hr, posn_eq hr, Ideal.div_coe h0, one_mul, Arrays.ctx, Ideal.div_coe h0]

theorem store1_eq (j : Fin 256) (d : Fin 512) : store1 w r (ix2 j d) = A.store1 (n + j.val) d := by
  pointwise [store1, rowsX]
  simp only [hr.x, hw.ws1, hw.bs1, context_eq hw hr]
  exact (lin_beside _ _ _ _ _).symm

theorem storePhase_eq (j : Fin 256) (p : Fin 128) : storePhase w r (ix2 j p) = A.sp (n + j.val) p := by
  pointwise [storePhase]
  simp only [gelu_at, store1_eq hw hr, hw.ws2, hw.bs2]
  rfl

theorem queryPhase_eq (j : Fin 256) (p : Fin 128) : queryPhase w r (ix2 j p) = A.qp (n + j.val) p := by
  pointwise [queryPhase]
  rw [proj_at]
  simp only [hr.x, hw.wke, hw.bke]
  rfl

theorem gated_eq (j : Fin 256) (v : Fin 128) : gated w r (ix2 j v) = padded (A.gv (n + j.val)) v := by
  pointwise [gated]
  rw [proj_at, gate_eq hw hr]
  simp only [hr.x, hw.wve, hw.bve]
  unfold padded
  split
  · rfl
  · simp

end

theorem feat_c (q : FVec Ideal S256x128 .f32) (j : Fin 256) (p : Fin 128) : feat q (ix2 j ⟨p.val, by omega⟩) = Ideal.cos (q (ix2 j p)) := by
  pointwise [feat]

theorem feat_s (q : FVec Ideal S256x128 .f32) (j : Fin 256) (p : Fin 128) :
    feat q (ix2 j ⟨128 + p.val, by omega⟩) = Ideal.sin (q (ix2 j p)) := by
  pointwise [feat]

/-- A sum over 256 columns is the sum of its halves. -/
theorem sum_halves (f : Fin 256 → EReal) : ∑ k, f k = ∑ p : Fin 128, f ⟨p.val, by omega⟩ + ∑ p : Fin 128, f ⟨128 + p.val, by omega⟩ :=
  Fin.sum_univ_add (a := 128) (b := 128) f

section
variable (hw : Reads A w) (hr : RowsAt A n r)
include hw hr

/-- The state carried on holds the sums through the sub-block's last row. -/
theorem nextState_at : StateAt A (n + 256) (nextState w r) := by
  have h : ∀ (q : Fin 256) (v : Fin 128), nextState w r (ix2 q v)
      = r.state (ix2 q v) + ∑ k : Fin 256, feat (storePhase w r) (ix2 k q) * gated w r (ix2 k v) := fun q v => by
    pointwise [nextState]
  refine ⟨fun p v => ?_, fun p v => ?_⟩
  · rw [h, hr.state.c]
    simp only [feat_c, storePhase_eq hw hr, gated_eq hw hr]
    exact sumTo_add (fun s => Ideal.cos (A.sp s p) * padded (A.gv s) v) n 256
  · rw [h, hr.state.s]
    simp only [feat_s, storePhase_eq hw hr, gated_eq hw hr]
    exact sumTo_add (fun s => Ideal.sin (A.sp s p) * padded (A.gv s) v) n 256

/-- The retrieval, before its finiteness is used. -/
theorem attn_at (j : Fin 256) (v : Fin 128) :
    attn w r (ix2 j v)
      = ∑ x : Fin 256, (∑ p, Ideal.cos (A.qp (n + j.val) p) * Ideal.cos (A.sp (n + x.val) p)
            + ∑ p, Ideal.sin (A.qp (n + j.val) p) * Ideal.sin (A.sp (n + x.val) p)) * (if x ≤ j then 1 else 0) * padded (A.gv (n + x.val)) v
        + (∑ p, Ideal.cos (A.qp (n + j.val) p) * sumTo (fun s => Ideal.cos (A.sp s p) * padded (A.gv s) v) n
            + ∑ p, Ideal.sin (A.qp (n + j.val) p) * sumTo (fun s => Ideal.sin (A.sp s p) * padded (A.gv s) v) n) := by
  have h : attn w r (ix2 j v)
      = ∑ x : Fin 256, (∑ q, feat (queryPhase w r) (ix2 j q) * feat (storePhase w r) (ix2 x q)) * tri (F := Ideal) (ix2 j x)
          * gated w r (ix2 x v)
        + ∑ q, feat (queryPhase w r) (ix2 j q) * r.state (ix2 q v) := by
    pointwise [attn]
  rw [h]
  simp only [sum_halves, feat_c, feat_s, queryPhase_eq hw hr, storePhase_eq hw hr, gated_eq hw hr, tri_at, hr.state.c, hr.state.s]

end

/-- The phases and the gated values are real. -/
theorem sp_real (t : ℕ) (p : Fin 128) : ∃ e : ℝ, A.sp t p = e := by
  obtain ⟨a, ha⟩ := tanh_real (lin (fun k => gelu1 (A.store1 t k)) A.ws2 A.bs2 p)
  obtain ⟨b, hb⟩ := pi_real
  exact ⟨a * b, by rw [Arrays.sp, ha, hb, EReal.coe_mul]⟩

theorem qp_real (t : ℕ) (p : Fin 128) : ∃ e : ℝ, A.qp t p = e := by
  obtain ⟨a, ha⟩ := tanh_real (lin (A.x t) A.wke A.bke p)
  obtain ⟨b, hb⟩ := pi_real
  exact ⟨a * b, by rw [Arrays.qp, ha, hb, EReal.coe_mul]⟩

theorem gate_real (t : ℕ) : ∃ e : ℝ, A.gate t = e := by
  obtain ⟨a, _, ha⟩ := logistic_real (∑ k : Fin 512, A.x t k * A.wg k + A.bg)
  exact ⟨a, ha⟩

theorem gv_real (hf : Finite A) (t : ℕ) (v : Fin 8) : ∃ e : ℝ, A.gv t v = e := by
  obtain ⟨a, ha⟩ := lin_real (hf.x t) hf.wve hf.bve v
  obtain ⟨b, hb⟩ := gate_real (A := A) t
  exact ⟨a * b, by rw [Arrays.gv, ha, hb, EReal.coe_mul]⟩

/-- The kernel's retrieval of a value column, scaled, is the model's. -/
theorem retrieve_eq (hf : Finite A) (hw : Reads A w) (hr : RowsAt A n r) (j : Fin 256) (v : Fin 128) (hv : v.val < 8) :
    attn w r (ix2 j v) * Ideal.rsqrt (max (A.cumG (n + j.val)) 1) * ((1048576 / 11863283 : ℝ) : EReal)
      = A.kvRet (n + j.val) ⟨v.val, hv⟩ := by
  have hp : ∀ t, padded (A.gv t) v = A.gv t ⟨v.val, hv⟩ := fun t => dif_pos hv
  rw [attn_at hw hr, Arrays.kvRet]
  simp only [Arrays.inv, Arrays.memC, Arrays.memS, hp]
  choose q hq using fun p => qp_real (A := A) (n + j.val) p
  choose s hs using fun t p => sp_real (A := A) t p
  choose g hg using fun t => gv_real hf t ⟨v.val, hv⟩
  choose e he using fun t => gate_real (A := A) t
  have hG : A.cumG (n + j.val) = ((∑ t ∈ Finset.range (n + j.val + 1), e t : ℝ) : EReal) := by
    rw [Arrays.cumG, ← sumTo_coe]
    exact congrArg (fun f => sumTo f _) (funext he)
  have hm : ∀ t x : Fin 256, (if x ≤ t then (1 : EReal) else 0) = (((if x ≤ t then 1 else 0 : ℝ)) : EReal) := by
    intro t x; split <;> simp
  have h1 : max (A.cumG (n + j.val)) 1 = ((max (∑ t ∈ Finset.range (n + j.val + 1), e t) 1 : ℝ) : EReal) := by
    rw [hG, EReal.coe_strictMono.monotone.map_max, EReal.coe_one]
  have hpos : 0 < max (∑ t ∈ Finset.range (n + j.val + 1), e t) 1 := lt_max_of_lt_right one_pos
  rw [one_real, max_comm 1, ← mul_rsqrt (by rw [h1]; exact_mod_cast hpos), one_mul, h1, Ideal.rsqrt_coe, if_neg hpos.not_gt, if_neg hpos.ne',
    c128_real, Ideal.div_coe (by norm_num), one_div_div]
  generalize (Real.sqrt (max (∑ t ∈ Finset.range (n + j.val + 1), e t) 1))⁻¹ = y
  simp only [hq, hs, hg, hm, Ideal.cos_coe, Ideal.sin_coe, ← EReal.coe_mul, sumTo_coe, sum_coe, ← EReal.coe_add]
  rw [attn_law (fun p => Real.cos (q p)) (fun p => Real.sin (q p)) (fun t p => Real.cos (s t p)) (fun t p => Real.sin (s t p)) g n j, Finset.sum_mul]
  congr 3
  exact funext fun p => by ring

/-- A sum over the columns with zeros beyond the eighth. -/
theorem sum_padded (F : Fin 128 → EReal) (f : Fin 8 → EReal) :
    ∑ x, F x * padded f x = ∑ v : Fin 8, F ⟨v.val, by omega⟩ * f v := by
  rw [show (∑ x, F x * padded f x) = _ from Fin.sum_univ_add (a := 8) (b := 120) fun x => F x * padded f x]
  rw [Finset.sum_eq_zero (s := Finset.univ (α := Fin 120)), add_zero]
  · exact Finset.sum_congr rfl fun v _ => by rw [padded, dif_pos (show (Fin.castAdd 120 v).val < 8 from v.isLt)]; rfl
  · intro v _
    rw [padded, dif_neg (show ¬ (Fin.natAdd 8 v).val < 8 by simp), mul_zero]

theorem kvOut_eq (hf : Finite A) (hw : Reads A w) (hr : RowsAt A n r) (j : Fin 256) (d : Fin 512) :
    kvOut w r (ix2 j d) = A.kvOut (n + j.val) d := by
  have hk : (Named.named κ "inv_sqrt_128" 0x3DB504F3#32 : Ideal .f32) = ((1048576 / 11863283 : ℝ) : EReal) :=
    IdealRules.named_const.ideal_named_scalar _ _ _ _ rfl
  pointwise [kvOut]
  simp only [sumsG hw hr, hw.wkv, hw.bkv, hk]
  rw [sum_padded]
  refine congrArg (· + A.bkv d) (Finset.sum_congr rfl fun v _ => ?_)
  rw [retrieve_eq hf hw hr j ⟨v.val, by omega⟩ v.isLt]

end Cert.Phasor

end
-- ==== Proof.Value.Out.lean ====
/-
  The kernel's step on one sub-block against the model, ended: the layer norm, the mixing layers and the result's rows.
-/
module

public import proofs.«01_k».proof.Proof.Value.Kv

@[expose] public section

noncomputable section

namespace Cert.Phasor

open Idealize.ShloMosaic Cert.KernelIdeal Cert.KernelIdeal.Gen

variable {A : Arrays} {w : Params Ideal} {r : Rows Ideal} {n : ℕ}

/-- The mean of a row. -/
theorem rowMean_at (v : FVec Ideal S256x1024 .f32) (j : Fin 256) : rowMean v (ix2 j 0) = Ideal.div (∑ k, v (ix2 j k)) cWidth := by
  pointwise [rowMean]
  rfl

/-- The variance is not negative, so what is under the root is positive. -/
theorem var_pos (t : ℕ) : 0 < A.var t + cEps := by
  obtain ⟨e, he, h⟩ := eps_real
  have h0 : 0 ≤ A.var t := by
    rw [Arrays.var, width_real, Ideal.div_coe (by norm_num)]
    exact mul_nonneg (Finset.sum_nonneg fun k _ => mul_self_nonneg' _) (by exact_mod_cast (by norm_num : (0 : ℝ) ≤ 1 / 1024))
  rw [h]
  have he' : (0 : EReal) < e := by exact_mod_cast he
  exact lt_of_lt_of_le he' (le_add_of_nonneg_left h0)

section
variable (hf : Finite A) (hw : Reads A w) (hr : RowsAt A n r)
include hf hw hr

theorem comb_eq (j : Fin 256) (k : Fin 1024) : comb w r (ix2 j k) = A.comb (n + j.val) k := by
  pointwise [comb]
  simp only [posOut_eq hf hw hr, kvOut_eq hf hw hr]
  rfl

theorem centred_eq (j : Fin 256) (k : Fin 1024) : centred w r (ix2 j k) = A.comb (n + j.val) k - A.mu (n + j.val) := by
  have h : centred w r (ix2 j k) = comb w r (ix2 j k) - rowMean (comb w r) (ix2 j 0) := by pointwise [centred]
  rw [h, rowMean_at]
  simp only [comb_eq hf hw hr]
  rfl

theorem normed_eq (j : Fin 256) (k : Fin 1024) : normed w r (ix2 j k) = A.normed (n + j.val) k := by
  have h : normed w r (ix2 j k) = centred w r (ix2 j k) * Ideal.rsqrt (rowMean (mulf (centred w r) (centred w r)) (ix2 j 0) + cEps)
      * w.lng (ix2 0 k) + w.lnb (ix2 0 k) := by
    pointwise [normed]
    rfl
  have hv : rowMean (mulf (centred w r) (centred w r)) (ix2 j 0) = A.var (n + j.val) := by
    rw [rowMean_at]
    have hm : ∀ k, mulf (centred w r) (centred w r) (ix2 j k) = centred w r (ix2 j k) * centred w r (ix2 j k) := fun _ => rfl
    simp only [hm, centred_eq hf hw hr]
    rfl
  rw [h, hv, centred_eq hf hw hr, hw.lng, hw.lnb, mul_rsqrt (var_pos _)]
  rfl

theorem mix1_eq (j : Fin 256) (k : Fin 1024) : mix1 w r (ix2 j k) = A.mix1 (n + j.val) k := by
  pointwise [mix1]
  simp only [normed_eq hf hw hr, hw.wt1, hw.bt1]
  rfl

/-- The rows of the result. -/
theorem outRows_eq (j : Fin 256) (d : Fin 512) : outRows w r (ix3 0 j d) = A.out (n + j.val) d := by
  pointwise [outRows, rowsX]
  simp only [gelu_at, mix1_eq hf hw hr, hr.x, hw.wt2, hw.bt2]
  rw [add_assoc]
  rfl

end

end Cert.Phasor

end
-- ==== Proof.Value.Chain.lean ====
/-
  The sub-blocks of a grid point, one after the other: each finds the sums of all rows before it.
-/
module

public import proofs.«01_k».proof.Proof.Kern.Body
public import proofs.«01_k».proof.Proof.Value.Out
public import Idealize.ShloMosaic.Lib.Pipeline.ValueKit.Tiles

@[expose] public section

noncomputable section

namespace Cert.Phasor

open Idealize.ShloMosaic Cert.KernelIdeal Cert.KernelIdeal.Gen

/-- Both sums at row `n`. -/
structure SumsAt (A : Arrays) (n : ℕ) (h : Carried Ideal) : Prop where
  carry : CarryAt A n h.carry
  state : StateAt A n h.state

/-- The four sub-blocks of the grid point at row `n` read the model's rows. -/
structure BlocksAt (A : Arrays) (n : ℕ) (b : Blocks Ideal) : Prop where
  x : ∀ k, k < 4 → ∀ (j : Fin 256) (d : Fin 512), b.x k (ix3 0 j d) = A.x (n + 256 * k + j.val) d
  c : ∀ k, k < 4 → ∀ (j : Fin 256) (d : Fin 512), b.c k (ix2 j d) = Ideal.cos (A.phi (n + 256 * k + j.val) d)
  s : ∀ k, k < 4 → ∀ (j : Fin 256) (d : Fin 512), b.s k (ix2 j d) = Ideal.sin (A.phi (n + 256 * k + j.val) d)
  first : ∀ k, k < 4 → b.first k = BitVec.ofNat 32 (n + 256 * k + 1)
  le : n + 1024 ≤ 4096

variable {A : Arrays} {w : Params Ideal} {b : Blocks Ideal} {h : Carried Ideal} {n : ℕ}

/-- Before the first row every sum is zero. -/
theorem sums_zero : SumsAt A 0 Carried.zero where
  carry := by
    constructor <;> intro d <;> simp only [sumTo, Finset.range_zero, Finset.sum_empty] <;> pointwise [Carried.zero, k1_pay4]
  state := by
    constructor <;> intro p v <;> simp only [sumTo, Finset.range_zero, Finset.sum_empty] <;> pointwise [Carried.zero, k1_pay5]

theorem rows_at (hb : BlocksAt A n b) {k : ℕ} (hk : k < 4) (hs : SumsAt A (n + 256 * k) h) :
    RowsAt A (n + 256 * k) (b.rows h k) where
  x := hb.x k hk
  c := hb.c k hk
  s := hb.s k hk
  carry := hs.carry
  state := hs.state
  first := hb.first k hk
  le := by have := hb.le; omega

/-- What the first `k` sub-blocks hand on. -/
theorem handed_at (hf : Finite A) (hw : Reads A w) (hb : BlocksAt A n b) (hs : SumsAt A n h) :
    ∀ k, k ≤ 4 → SumsAt A (n + 256 * k) (handed w b h k)
  | 0, _ => hs
  | k + 1, hk => by
    have hr := rows_at hb (by omega) (handed_at hf hw hb hs k (by omega))
    rw [show n + 256 * (k + 1) = n + 256 * k + 256 from by omega]
    exact ⟨nextCarry_at hw hr, nextState_at hw hr⟩

/-- The result's rows that a grid point leaves. -/
theorem outBlock_at (hf : Finite A) (hw : Reads A w) (hb : BlocksAt A n b) (hs : SumsAt A n h) (j : Fin 1024) (d : Fin 512) :
    outBlock w b h (ix3 0 j d) = A.out (n + j.val) d := by
  have main : ∀ k (hk : k < 4) (i : Fin 256), outAt w b h k (ix3 0 i d) = A.out (n + 256 * k + i.val) d := fun k hk i =>
    outRows_eq hf hw (rows_at hb hk (handed_at hf hw hb hs k (by omega))) i d
  have tile : ∀ k (hk : k < 4), View.TileAt (ix3 0 j d : S1x1024x512.Idx) ![0, 256 * k, 0] S1x256x512.size (outAt w b h k) (A.out (n + j.val) d) := by
    intro k hk x hx
    have h1 : j.val = 256 * k + (x 1).val := hx 1
    have h2 : d.val = 0 + (x 2).val := hx 2
    have h0 : (x 0).val < 1 := (x 0).isLt
    obtain ⟨i, hi⟩ : ∃ i : Fin 256, i.val = (x 1).val := ⟨⟨(x 1).val, (x 1).isLt⟩, rfl⟩
    have e : x = (ix3 0 i d : S1x256x512.Idx) := by
      funext a
      match a with
      | ⟨0, _⟩ => exact Fin.ext (by show (x 0).val = 0; omega)
      | ⟨1, _⟩ => exact Fin.ext (by show (x 1).val = i.val; omega)
      | ⟨2, _⟩ => exact Fin.ext (by show (x 2).val = d.val; omega)
    rw [e, main k hk, show n + 256 * k + i.val = n + j.val from by omega]
  exact View.canon_eq_of_allAt (outStores w b h) (ix3 0 j d) _ (outStores_cover w b h _)
    (View.allAt_cons_unit _ _ _ _ _ (tile 3 (by decide)) (View.allAt_cons_unit _ _ _ _ _ (tile 2 (by decide))
      (View.allAt_cons_unit _ _ _ _ _ (tile 1 (by decide)) (View.allAt_cons_unit _ _ _ _ _ (tile 0 (by decide)) (View.allAt_nil _ _)))))

end Cert.Phasor

end
-- ==== Proof.Value.Points.lean ====
/-
  The sixteen grid points of the fused kernel: four to a batch, each finding the sums of all rows of its batch before its own.
-/
module

public import proofs.«01_k».proof.Proof.Value.Windows
public import proofs.«01_k».proof.Proof.Value.Chain

@[expose] public section

set_option maxRecDepth 16384

noncomputable section

namespace Cert.Phasor

open Cert.KernelIdeal Cert.KernelIdeal.Gen
open Idealize.ShloMosaic Idealize.ShloMosaic.TcCoe Idealize.ShloMosaic.Tactic

/-- A load of 256 rows at row `o`, of `x`'s block, -/
theorem ld_x (x : Vec Ideal S1x1024x512 .f32) (o : ℕ) (inb) (j : Fin 256) (d : Fin 512) (h : o + 256 ≤ 1024) :
    View.ld x (Rect.unit (s := S1x1024x512) ![0, o, 0] S1x256x512.size inb) (ix3 0 j d : S1x256x512.Idx) = x (ix3 0 ⟨o + j.val, by omega⟩ d) := by
  refine congrArg x (funext fun a => ?_)
  match a with
  | ⟨0, _⟩ => rfl
  | ⟨1, _⟩ => exact Fin.ext (by show o + 1 * j.val = o + j.val; omega)
  | ⟨2, _⟩ => exact Fin.ext (by show 0 + 1 * d.val = d.val; omega)

/-- and of a table's. -/
theorem ld_table (x : Vec Ideal S1024x512 .f32) (o : ℕ) (inb) (j : Fin 256) (d : Fin 512) (h : o + 256 ≤ 1024) :
    View.ld x (Rect.unit (s := S1024x512) ![o, 0] S256x512.size inb) (ix2 j d : S256x512.Idx) = x (ix2 ⟨o + j.val, by omega⟩ d) := by
  refine congrArg x (funext fun a => ?_)
  match a with
  | ⟨0, _⟩ => exact Fin.ext (by show o + 1 * j.val = o + j.val; omega)
  | ⟨1, _⟩ => exact Fin.ext (by show 0 + 1 * d.val = d.val; omega)

theorem quarters_at (x : Vec Ideal S1024x512 .f32) {k : ℕ} (hk : k < 4) (j : Fin 256) (d : Fin 512) :
    blocksOf.quarters x k (ix2 j d) = x (ix2 ⟨256 * k + j.val, by omega⟩ d) := by
  interval_cases k <;> exact ld_table x _ _ j d (by decide)

theorem firstPos_at (i : grid1.Coords) {k : ℕ} (hk : k < 4) (hi : (i 1).val < 4) :
    firstPos i k = BitVec.ofNat 32 (1024 * (i 1).val + 256 * k + 1) := by
  unfold firstPos
  generalize (i 1).val = n at hi
  interval_cases n <;> interval_cases k <;> decide

variable (V : (c : Dev nD) → (b : Ref sig .tc) → Buf (Elt Ideal) ((c : Thread nD τ).loc b)) (c : Dev nD)

/-- The batch of a point. -/
abbrev batchOf (n : ℕ) (h : n < cfg1.N) : Fin 4 := ⟨n / 4, by have := Nat.lt_of_lt_of_eq h N_1; omega⟩

theorem coord_row (t : Fin cfg1.N) : (grid1.coords t 1).val = t.val % 4 := by
  have e : (grid1.coords t 1).val = t.val / 1 % 4 := Pipeline.Grid.coords_val t 1 (by decide) rfl
  rw [e, Nat.div_one]

theorem blocks_at {A : Arrays} (t : Fin cfg1.N)
    (hx : ∀ (j : Fin 1024) (d : Fin 512), iblk1 V c 0 t (ix3 0 j d) = A.x (1024 * (t.val % 4) + j.val) d)
    (hc : ∀ (j : Fin 1024) (d : Fin 512), iblk1 V c 1 t (ix2 j d) = Ideal.cos (A.phi (1024 * (t.val % 4) + j.val) d))
    (hs : ∀ (j : Fin 1024) (d : Fin 512), iblk1 V c 2 t (ix2 j d) = Ideal.sin (A.phi (1024 * (t.val % 4) + j.val) d)) :
    BlocksAt A (1024 * (t.val % 4)) (blocksAt V c t) where
  x k hk j d := by
    have h : (blocksAt V c t).x k (ix3 0 j d) = iblk1 V c 0 t (ix3 0 ⟨256 * k + j.val, by omega⟩ d) := by
      interval_cases k <;> exact ld_x (iblk1 V c 0 t) _ _ j d (by decide)
    rw [h, hx, Nat.add_assoc]
  c k hk j d := (quarters_at _ hk j d).trans (by rw [hc, Nat.add_assoc])
  s k hk j d := (quarters_at _ hk j d).trans (by rw [hs, Nat.add_assoc])
  first k hk := (firstPos_at _ hk (by rw [coord_row]; omega)).trans (by rw [coord_row])
  le := by omega

variable {A : Fin 4 → Arrays} (hf : ∀ b, Finite (A b)) (hw : ∀ t : Fin cfg1.N, Reads (A (batchOf t.val t.isLt)) (paramsAt V c t))
  (hb : ∀ t : Fin cfg1.N, BlocksAt (A (batchOf t.val t.isLt)) (1024 * (t.val % 4)) (blocksAt V c t))
include hf hw hb

/-- What a point starts from. -/
theorem hand_sums : ∀ (n : ℕ) (h : n < cfg1.N), SumsAt (A (batchOf n h)) (1024 * (n % 4)) (handAt V c n h)
  | 0, _ => sums_zero
  | n + 1, h => by
    by_cases h0 : (n + 1) % 4 = 0
    · rw [handAt_first V c _ h h0, h0]
      exact sums_zero
    · have ih := hand_sums n (Nat.lt_of_succ_lt h)
      have := handed_at (hf _) (hw ⟨n, Nat.lt_of_succ_lt h⟩) (hb ⟨n, Nat.lt_of_succ_lt h⟩) ih 4 (le_refl 4)
      rw [handAt_next V c n h h0, show batchOf (n + 1) h = batchOf n (Nat.lt_of_succ_lt h) from Fin.ext (by show (n + 1) / 4 = n / 4; omega),
        show 1024 * ((n + 1) % 4) = 1024 * (n % 4) + 256 * 4 from by omega]
      exact this

/-- The result. -/
theorem result_eq : (dat1 V c).arrAt 20 cfg1.N = fun i : S4x4096x512.Idx => (A (i 0)).out (i 1).val (i 2) := by
  refine result_at V c _ fun t j d => ?_
  exact outBlock_at (hf _) (hw t) (hb t) (hand_sums V c hf hw hb t.val t.isLt) j d

end Cert.Phasor

end
-- ==== Proof.Value.Result.lean ====
/-
  The kernel's result over its arguments, when those that the precondition names are finite.
-/
module

public import proofs.«01_k».proof.Proof.Value.Points

@[expose] public section

set_option maxRecDepth 16384

noncomputable section

namespace Cert.Phasor

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The kernel's arguments. -/
def given : Inputs :=
  ⟨V0 m c main_arg0, V0 m c main_arg1, V0 m c main_arg2, V0 m c main_arg3, V0 m c main_arg4, V0 m c main_arg5, V0 m c main_arg6, V0 m c main_arg7,
    V0 m c main_arg8, V0 m c main_arg9, V0 m c main_arg10, V0 m c main_arg11, V0 m c main_arg12, V0 m c main_arg13, V0 m c main_arg14, V0 m c main_arg15,
    V0 m c main_arg16, V0 m c main_arg17, V0 m c main_arg18, V0 m c main_arg19, V0 m c main_arg20, V0 m c main_arg21, V0 m c main_arg22, V0 m c main_arg23,
    V0 m c main_arg24, V0 m c main_arg25, V0 m c main_arg26, V0 m c main_arg27, V0 m c main_arg28⟩

/-- An argument enters the second kernel as it was. -/
theorem arg_entry (r : Ref sig .tc) (h : r ∉ ([main_v0_0, main_v0_1] : List (Ref sig .tc)) ++ padRefs) (h12 : r ∉ hostOps1_10_W) :
    entry1 m c r = V0 m c r := V12_arg m (tablesLeft m) c r h h12

/-- The gate's column among the weights, -/
theorem gate_col (b : Fin 4) (t : Fin cfg1.N) (k : Fin 512) :
    (paramsAt (entry1 m) c t).wcat (ix2 k ⟨1792, by omega⟩) = ((given m c).batch b).wg k := by
  have h := (beside_cols _ _ _ _ _ _ k (host_v9 m (tablesLeft m) c)).2.2.2.2.2
  have e : (paramsAt (entry1 m) c t).wcat (ix2 k ⟨1792, by omega⟩) = V12 m (tablesLeft m) c main_v9 (ix2 k ⟨1792, by omega⟩ : S512x1920.Idx) := by
    rw [params_whole]
  have p := (host_pads m (tablesLeft m) c).2.2.2.1 k
  exact e.trans (h.trans p)

/-- and its entry among the biases. -/
theorem gate_bias (b : Fin 4) (t : Fin cfg1.N) : (paramsAt (entry1 m) c t).bcat (ix2 0 ⟨1792, by omega⟩) = ((given m c).batch b).bg := by
  have h := (beside_row _ _ _ _ _ _ (host_v14 m (tablesLeft m) c)).2.2.2.2.2
  have e : (paramsAt (entry1 m) c t).bcat (ix2 0 ⟨1792, by omega⟩) = V12 m (tablesLeft m) c main_v14 (ix2 0 ⟨1792, by omega⟩ : S1x1920.Idx) := by
    rw [params_whole]
  have p := (host_pads m (tablesLeft m) c).2.2.2.2
  exact e.trans (h.trans p)

set_option maxHeartbeats 1000000 in
/-- The second kernel reads the parameters. -/
theorem reads_params (b : Fin 4) (t : Fin cfg1.N) : Reads ((given m c).batch b) (paramsAt (entry1 m) c t) := by
  obtain ⟨r10, r11, r12, r13, r15, r16, r17, r18, r19, r20, r21, r22⟩ := host_rows m (tablesLeft m) c
  obtain ⟨p2, p4, p5, p6, p8⟩ := host_pads m (tablesLeft m) c
  have cols := fun k => beside_cols _ _ _ _ _ _ k (host_v9 m (tablesLeft m) c)
  obtain ⟨q0, q1, q2, q3, q4, q5⟩ := beside_row _ _ _ _ _ _ (host_v14 m (tablesLeft m) c)
  have g := gate_col m c b t
  have gb := gate_bias m c b t
  rw [params_whole] at g gb ⊢
  exact {
    ms := host_ms m (tablesLeft m) c
    wv := fun k d => ((cols k).1 d).trans (congrFun (arg_entry m c main_arg3 (by decide) (by decide)) _)
    wm := fun k d => ((cols k).2.1 d).trans (congrFun (arg_entry m c main_arg7 (by decide) (by decide)) _)
    wq := fun k d => ((cols k).2.2.1 d).trans (congrFun (arg_entry m c main_arg9 (by decide) (by decide)) _)
    wke := fun k d => ((cols k).2.2.2.1 d).trans (congrFun (arg_entry m c main_arg11 (by decide) (by decide)) _)
    wve := fun k d => ((cols k).2.2.2.2.1 d).trans (p2 k d)
    wg := g
    bv := fun d => (q0 d).trans (r10 d)
    bm := fun d => (q1 d).trans (r11 d)
    bq := fun d => (q2 d).trans (r12 d)
    bke := fun d => (q3 d).trans (r13 d)
    bve := fun d => (q4 d).trans (p4 d)
    bg := gb
    wo := fun k d => congrFun (arg_entry m c main_arg5 (by decide) (by decide)) (ix2 k d)
    bo := r15
    ws1 := fun k d => congrFun (arg_entry m c main_arg15 (by decide) (by decide)) (ix2 k d)
    bs1 := r16
    ws2 := fun k d => congrFun (arg_entry m c main_arg17 (by decide) (by decide)) (ix2 k d)
    bs2 := r17
    wkv := p5
    bkv := r18
    lng := r19
    lnb := r20
    wt1 := fun k d => congrFun (arg_entry m c main_arg25 (by decide) (by decide)) (ix2 k d)
    bt1 := r21
    wt2 := fun k d => congrFun (arg_entry m c main_arg27 (by decide) (by decide)) (ix2 k d)
    bt2 := r22 }

theorem V12_table (outs : Outs (F := Ideal)) (r : Ref sig .tc) (h : r ∉ padRefs) (h12 : r ∉ hostOps1_10_W) : V12 m outs c r = V1 m outs c r := by
  simp only [padRefs, List.mem_append, not_or] at h
  obtain ⟨⟨⟨⟨⟨⟨⟨⟨⟨h2, h3⟩, h4⟩, h5⟩, h6⟩, h7⟩, h8⟩, h9⟩, h10⟩, h11⟩ := h
  rw [V12_of m outs c r h12, V11_of m outs c r h11, V10_of m outs c r h10, V9_of m outs c r h9, V8_of m outs c r h8, V7_of m outs c r h7,
    V6_of m outs c r h6, V5_of m outs c r h5, V4_of m outs c r h4, V3_of m outs c r h3, V2_of m outs c r h2]

/-- The second kernel finds the cosines, -/
theorem cos_entry : entry1 m c main_v0_0 = fun i => Ideal.cos (V0 m c main_arg1 i) :=
  ((V12_table m c (tablesLeft m) main_v0_0 (by decide) (by decide)).trans (V1_cos m (tablesLeft m) c)).trans ((left0 m c 1 1).trans (cos_table (entry0 m) c))

/-- and the sines. -/
theorem sin_entry : entry1 m c main_v0_1 = fun i => Ideal.sin (V0 m c main_arg1 i) :=
  ((V12_table m c (tablesLeft m) main_v0_1 (by decide) (by decide)).trans (V1_sin m (tablesLeft m) c)).trans ((left0 m c 1 2).trans (sin_table (entry0 m) c))

theorem row_eq {n : ℕ} (h : n < 4096) : (⟨n, h⟩ : Fin 4096) = row n := Fin.ext (Nat.mod_eq_of_lt h).symm

/-- A point's blocks are the rows of its batch. -/
theorem reads_blocks (t : Fin cfg1.N) :
    BlocksAt ((given m c).batch (batchOf t.val t.isLt)) (1024 * (t.val % 4)) (blocksAt (entry1 m) c t) := by
  refine blocks_at (entry1 m) c t (fun j d => ?_) (fun j d => ?_) (fun j d => ?_)
  · rw [block_x, arg_entry m c main_arg0 (by decide) (by decide), row_eq]
    rfl
  · rw [block_cos, cos_entry, row_eq]
    rfl
  · rw [block_sin, sin_entry, row_eq]
    rfl

/-- What the second kernel leaves in the result. -/
theorem kernel_result (hf : ∀ b, Finite ((given m c).batch b)) :
    V13 m (bothLeft m) c main_v23 = fun i : S4x4096x512.Idx => ((given m c).batch (i 0)).out (i 1).val (i 2) :=
  ((V13_out m (bothLeft m) c).trans (left1 m c 20)).trans
    (result_eq (entry1 m) c (A := fun b => (given m c).batch b) hf (fun t => reads_params m c _ t) (reads_blocks m c))

end Cert.Phasor

end
-- ==== Proof.Value.Precondition.lean ====
/-
  What the precondition says: the entries of the six arrays that it names are reals.
-/
module

public import proofs.«01_k».proof.Defs
public import proofs.«01_k».proof.Proof.Gen.Pre_finite_inputs
public import proofs.«01_k».proof.Proof.Value.Result

@[expose] public section

set_option maxRecDepth 16384

noncomputable section

namespace Cert.Phasor

open Cert.KernelIdeal Cert.KernelIdeal.Gen
open Idealize.ShloMosaic Idealize.ShloMosaic.TcCoe Idealize.ShloMosaic.Tactic

theorem infinity : Ideal.ofBits .f32 0x7F800000#32 = ⊤ := by simp [Ideal.ofBits, Ideal.ieee]

/-- An extended real whose magnitude is below infinity is a real. -/
theorem real_of_lt {a : EReal} (h : Ideal.cmp .olt (max a (-a)) (Ideal.ofBits .f32 0x7F800000#32) = 1#1) : ∃ e : ℝ, a = e := by
  rw [infinity] at h
  induction a with
  | coe e => exact ⟨e, rfl⟩
  | top => simp [Ideal.cmp] at h
  | bot => simp [Ideal.cmp] at h

variable (m : (ℓ : Loc nD τ sig) → Buf (Elt Ideal) ℓ)

theorem finite_given (h : Cert.Pre_KernelIdeal_finite_inputs m) (c : Dev nD) (b : Fin 4) : Finite ((given m c).batch b) := by
  obtain ⟨h0, h1, h9, h10, h13, h14⟩ := h c
  exact {
    x := fun t d => real_of_lt (congrFun h0 (ix3 b (row t) d))
    phi := fun t d => real_of_lt (congrFun h1 (ix2 (row t) d))
    wq := fun k d => real_of_lt (congrFun h9 (ix2 k d))
    bq := fun d => real_of_lt (congrFun h10 (ix1 d))
    wve := fun k d => real_of_lt (congrFun h13 (ix2 k d))
    bve := fun d => real_of_lt (congrFun h14 (ix1 d)) }

end Cert.Phasor

end
-- ==== Proof.Value.Cumsum.lean ====
/-
  The reference's cumulative sums at an index: the host writes each as a window of 4096 rows that ends at the row.
-/
module

public import proofs.«01_k».proof.Proof.Value.Sums
public import Idealize.ShloMosaic.PureOps.Ideal.Laws

@[expose] public section

noncomputable section

namespace Cert.Phasor

open Idealize.ShloMosaic

/-- A fold of additions is the sum. -/
theorem foldl_add {n : ℕ} (g : Fin n → EReal) (v : EReal) : (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, ← Fin.sum_univ_def]

/-- A sum over the window's rows that lie in the array. -/
theorem window_sum (f : ℕ → EReal) {N q : ℕ} (hN : N = q + 1) {t : ℕ} (ht : t < N) :
    (∑ k : Fin N, if q ≤ t + k.val then f (t + k.val - q) else 0) = sumTo f (t + 1) := by
  rw [Fin.sum_univ_eq_sum_range (fun k => if q ≤ t + k then f (t + k - q) else 0) N,
    show N = (q - t) + (t + 1) by omega, Finset.sum_range_add, Finset.sum_eq_zero, zero_add]
  · refine Finset.sum_congr rfl fun k _ => ?_
    rw [if_pos (by omega)]
    congr 1
    omega
  · intro k hk
    rw [if_neg]
    have := Finset.mem_range.mp hk
    omega

/-- The host's window sum from zero: the sum over the window's indices of the elements that are not padding. -/
theorem windowAdd_at {s t u : Shape} (window strides lo hi : Fin s.rank → Nat) (x : FVec Ideal s .f32) (init : FVec Ideal u .f32)
    (h : s.ReduceWindows window strides lo hi t) (hu : 0 < u.numel) (hinit : ∀ i, init i = 0) (j : t.Idx) :
    Host.reduceWindowAdd (F := Ideal) window strides lo hi x init h hu j
      = ∑ i : (⟨s.rank, window⟩ : Shape).Idx,
          (if hin : ∀ a : Fin s.rank, lo a ≤ (j (a.cast h.1.symm)).val * strides a + (i a).val ∧
              (j (a.cast h.1.symm)).val * strides a + (i a).val - lo a < s.size a
            then x (fun a => ⟨_, (hin a).2⟩) else 0) := by
  unfold Host.reduceWindowAdd
  rw [Ideal.hostReduceWindowAdd_def, hinit]
  unfold Ideal.hostReduceWindowAdd Host.reduceWindow
  refine (foldl_add _ _).trans ?_
  rw [zero_add]
  refine Eq.trans (Finset.sum_congr rfl fun k _ => ?_) (Equiv.sum_comp (⟨s.rank, window⟩ : Shape).rowMajor.symm (fun i : (⟨s.rank, window⟩ : Shape).Idx =>
    (if hin : ∀ a : Fin s.rank, lo a ≤ (j (a.cast h.1.symm)).val * strides a + (i a).val ∧
        (j (a.cast h.1.symm)).val * strides a + (i a).val - lo a < s.size a
      then x (fun a => ⟨_, (hin a).2⟩) else 0)))
  dsimp only
  congr 1

/-- The cumulative sum along the second of three axes. -/
theorem cumsum3 {m n N q : ℕ} (hN : N = q + 1) (x : FVec Ideal ⟨3, ![m, N, n]⟩ .f32) (init : FVec Ideal ⟨0, ![]⟩ .f32)
    (h : (⟨3, ![m, N, n]⟩ : Shape).ReduceWindows (![1, N, 1] : Fin 3 → Nat) ![1, 1, 1] ![0, q, 0] ![0, 0, 0] ⟨3, ![m, N, n]⟩)
    (hu : 0 < (⟨0, ![]⟩ : Shape).numel) (hinit : ∀ i, init i = 0) (f : ℕ → EReal) (b : Fin m) (t : Fin N) (d : Fin n)
    (hx : ∀ s : Fin N, x (ix3 b s d) = f s.val) :
    Host.reduceWindowAdd (F := Ideal) ![1, N, 1] ![1, 1, 1] ![0, q, 0] ![0, 0, 0] x init h hu (ix3 b t d) = sumTo f (t.val + 1) := by
  rw [windowAdd_at _ _ _ _ _ _ _ _ hinit, ← window_sum f hN t.isLt]
  refine (sum_idx3 _).trans ?_
  rw [Fin.sum_univ_one]
  refine Finset.sum_congr rfl fun k _ => ?_
  rw [Fin.sum_univ_one]
  by_cases hk : q ≤ t.val + k.val
  · rw [if_pos hk, dif_pos]
    · refine Eq.trans (congrArg x (funext fun a => Fin.ext ?_)) (hx ⟨t.val + k.val - q, by omega⟩)
      match a with
      | ⟨0, _⟩ => show b.val * 1 + 0 - 0 = b.val; omega
      | ⟨1, _⟩ => show t.val * 1 + k.val - q = t.val + k.val - q; omega
      | ⟨2, _⟩ => show d.val * 1 + 0 - 0 = d.val; omega
    · intro a
      match a with
      | ⟨0, _⟩ => show 0 ≤ b.val * 1 + 0 ∧ b.val * 1 + 0 - 0 < m; omega
      | ⟨1, _⟩ => show q ≤ t.val * 1 + k.val ∧ t.val * 1 + k.val - q < N; omega
      | ⟨2, _⟩ => show 0 ≤ d.val * 1 + 0 ∧ d.val * 1 + 0 - 0 < n; omega
  · rw [if_neg hk, dif_neg]
    intro hin
    have h1 : q ≤ t.val * 1 + k.val := (hin 1).1
    omega

/-- The cumulative sum along the second of four axes. -/
theorem cumsum4 {m n o N q : ℕ} (hN : N = q + 1) (x : FVec Ideal ⟨4, ![m, N, n, o]⟩ .f32) (init : FVec Ideal ⟨0, ![]⟩ .f32)
    (h : (⟨4, ![m, N, n, o]⟩ : Shape).ReduceWindows (![1, N, 1, 1] : Fin 4 → Nat) ![1, 1, 1, 1] ![0, q, 0, 0] ![0, 0, 0, 0]
      ⟨4, ![m, N, n, o]⟩)
    (hu : 0 < (⟨0, ![]⟩ : Shape).numel) (hinit : ∀ i, init i = 0) (f : ℕ → EReal) (b : Fin m) (t : Fin N) (p : Fin n) (v : Fin o)
    (hx : ∀ s : Fin N, x (ix4 b s p v) = f s.val) :
    Host.reduceWindowAdd (F := Ideal) ![1, N, 1, 1] ![1, 1, 1, 1] ![0, q, 0, 0] ![0, 0, 0, 0] x init h hu (ix4 b t p v)
      = sumTo f (t.val + 1) := by
  rw [windowAdd_at _ _ _ _ _ _ _ _ hinit, ← window_sum f hN t.isLt]
  refine (sum_idx4 _).trans ?_
  rw [Fin.sum_univ_one]
  refine Finset.sum_congr rfl fun k _ => ?_
  rw [Fin.sum_univ_one, Fin.sum_univ_one]
  by_cases hk : q ≤ t.val + k.val
  · rw [if_pos hk, dif_pos]
    · refine Eq.trans (congrArg x (funext fun a => Fin.ext ?_)) (hx ⟨t.val + k.val - q, by omega⟩)
      match a with
      | ⟨0, _⟩ => show b.val * 1 + 0 - 0 = b.val; omega
      | ⟨1, _⟩ => show t.val * 1 + k.val - q = t.val + k.val - q; omega
      | ⟨2, _⟩ => show p.val * 1 + 0 - 0 = p.val; omega
      | ⟨3, _⟩ => show v.val * 1 + 0 - 0 = v.val; omega
    · intro a
      match a with
      | ⟨0, _⟩ => show 0 ≤ b.val * 1 + 0 ∧ b.val * 1 + 0 - 0 < m; omega
      | ⟨1, _⟩ => show q ≤ t.val * 1 + k.val ∧ t.val * 1 + k.val - q < N; omega
      | ⟨2, _⟩ => show 0 ≤ p.val * 1 + 0 ∧ p.val * 1 + 0 - 0 < n; omega
      | ⟨3, _⟩ => show 0 ≤ v.val * 1 + 0 ∧ v.val * 1 + 0 - 0 < o; omega
  · rw [if_neg hk, dif_neg]
    intro hin
    have h1 : q ≤ t.val * 1 + k.val := (hin 1).1
    omega

end Cert.Phasor

end
-- ==== Proof.Value.RefPos.lean ====
/-
  The reference's lines against the model: the positional memory.
-/
module

public import proofs.«01_k».proof.Proof.Gen.ReferenceIdeal.Read
public import proofs.«01_k».proof.Proof.Value.Inputs
public import proofs.«01_k».proof.Proof.Value.Cumsum

@[expose] public section

noncomputable section

namespace Cert.Phasor

open Idealize.ShloMosaic Cert.ReferenceIdeal Cert.ReferenceIdeal.Read

variable (I : Inputs) (b : Fin 4) (t : Fin 4096)

theorem ref_value (d : Fin 512) : val_main_v5 (F := Ideal) I.x I.wv I.bv (ix3 b t d) = lin ((I.batch b).x t.val) (I.batch b).wv (I.batch b).bv d := by
  pointwise [val_main_v5, val_main_v2, val_main_v4, val_main_v3]
  simp only [lin, Inputs.batch, row_val]

theorem ref_mag (d : Fin 512) : val_main_v18 (F := Ideal) I.x I.ms I.wm I.bm (ix3 b t d) = (I.batch b).mag t.val d := by
  pointwise [val_main_v18, val_main_v17, val_main_v16, val_main_v15, val_main_v14, val_main_cst_0, val_main_v13, val_main_v12, val_main_cst,
    val_main_v11, val_main_v10, val_main_v9, val_main_v6, val_main_v8, val_main_v7]
  simp only [Arrays.mag, lin, Inputs.batch, row_val, Ideal.logistic]
  rfl

theorem ref_weighted (d : Fin 512) :
    val_main_v19 (F := Ideal) I.x I.ms I.wv I.bv I.wm I.bm (ix3 b t d) = (I.batch b).wval t.val d := by
  rw [val_main_v19_apply, ref_mag, ref_value]
  rfl

theorem ref_boundC (d : Fin 512) :
    val_main_v22 (F := Ideal) I.x I.phi I.ms I.wv I.bv I.wm I.bm (ix3 b t d) = (I.batch b).boundC t.val d := by
  have h : val_main_v21 (F := Ideal) I.phi (ix3 b t d) = Ideal.cos (I.phi (ix2 t d)) := by
    pointwise [val_main_v21, val_main_v20, val_main_v0]
  rw [val_main_v22_apply, ref_weighted, h]
  simp only [Arrays.boundC, Inputs.batch, row_val]
  rfl

theorem ref_boundS (d : Fin 512) :
    val_main_v26 (F := Ideal) I.x I.phi I.ms I.wv I.bv I.wm I.bm (ix3 b t d) = (I.batch b).boundS t.val d := by
  have h : val_main_v25 (F := Ideal) I.phi (ix3 b t d) = Ideal.sin (I.phi (ix2 t d)) := by
    pointwise [val_main_v25, val_main_v24, val_main_v1]
  rw [val_main_v26_apply, ref_weighted, h]
  simp only [Arrays.boundS, Inputs.batch, row_val]
  rfl

theorem ref_cumC (d : Fin 512) :
    val_main_v23 (F := Ideal) I.x I.phi I.ms I.wv I.bv I.wm I.bm (ix3 b t d) = (I.batch b).cumC t.val d :=
  cumsum3 (q := 4095) rfl _ _ _ _ (fun i => by pointwise [val_main_call0_call0_v0, val_main_call0_call0_cst]) (fun s => (I.batch b).boundC s d) b t d
    fun s => ref_boundC I b s d

theorem ref_cumS (d : Fin 512) :
    val_main_v27 (F := Ideal) I.x I.phi I.ms I.wv I.bv I.wm I.bm (ix3 b t d) = (I.batch b).cumS t.val d :=
  cumsum3 (q := 4095) rfl _ _ _ _ (fun i => by pointwise [val_main_call1_call0_v0, val_main_call1_call0_cst]) (fun s => (I.batch b).boundS s d) b t d
    fun s => ref_boundS I b s d

theorem ref_cumM (d : Fin 512) : val_main_v28 (F := Ideal) I.x I.ms I.wm I.bm (ix3 b t d) = (I.batch b).cumM t.val d :=
  cumsum3 (q := 4095) rfl _ _ _ _ (fun i => by pointwise [val_main_call2_call0_v0, val_main_call2_call0_cst]) (fun s => (I.batch b).mag s d) b t d
    fun s => ref_mag I b s d

theorem ref_posRet (d : Fin 512) :
    val_main_v47 (F := Ideal) I.x I.phi I.ms I.wv I.bv I.wm I.bm I.wq I.bq (ix3 b t d) = (I.batch b).posRet t.val d := by
  pointwise [val_main_v47, val_main_v46, val_main_cst_2, val_main_v45, val_main_v44, val_main_v43, val_main_v42, val_main_v41, val_main_v40,
    val_main_v39, val_main_v38, val_main_v37, val_main_v36, val_main_v35, val_main_v34, val_main_v33, val_main_v32, val_main_v31, val_main_v30,
    val_main_v29, val_main_cst_1]
  rw [ref_cumC, ref_cumS, ref_cumM]
  simp only [Arrays.posRet, Arrays.dq, lin, Inputs.batch, row_val]
  rfl

theorem ref_posOut (d : Fin 512) :
    val_main_v51 (F := Ideal) I.x I.phi I.ms I.wv I.bv I.wo I.bo I.wm I.bm I.wq I.bq (ix3 b t d) = (I.batch b).posOut t.val d := by
  pointwise [val_main_v51, val_main_v50, val_main_v49, val_main_v48]
  simp only [ref_posRet]
  rfl

end Cert.Phasor

end
-- ==== Proof.Value.RefKv.lean ====
/-
  The reference's lines against the model, continued: the key-value memory.
-/
module

public import proofs.«01_k».proof.Proof.Value.RefPos
public import proofs.«01_k».proof.Proof.Value.Laws

@[expose] public section

noncomputable section

namespace Cert.Phasor

open Idealize.ShloMosaic Cert.ReferenceIdeal Cert.ReferenceIdeal.Read

variable (I : Inputs) (b : Fin 4) (t : Fin 4096)

theorem ref_qp (p : Fin 128) : val_main_v58 (F := Ideal) I.x I.wke I.bke (ix3 b t p) = (I.batch b).qp t.val p := by
  pointwise [val_main_v58, val_main_v57, val_main_cst_3, val_main_v56, val_main_v55, val_main_v54, val_main_v53, val_main_v52]
  simp only [Arrays.qp, lin, Inputs.batch, row_val]
  rfl

theorem ref_gate : val_main_v72 (F := Ideal) I.x I.wg I.bg (ix3 b t 0) = (I.batch b).gate t.val := by
  pointwise [val_main_v72, val_main_v71, val_main_cst_5, val_main_v70, val_main_v69, val_main_cst_4, val_main_v68, val_main_v67, val_main_v66,
    val_main_v65, val_main_v64, val_main_v63]
  simp only [Arrays.gate, Inputs.batch, row_val, Ideal.logistic]

theorem ref_cumG : val_main_v115 (F := Ideal) I.x I.wg I.bg (ix3 b t 0) = (I.batch b).cumG t.val :=
  cumsum3 (q := 4095) rfl _ _ _ _ (fun i => by pointwise [val_main_call6_call0_v0, val_main_call6_call0_cst]) (I.batch b).gate b t 0
    fun s => ref_gate I b s

theorem ref_cumX (d : Fin 512) : val_main_v77 (F := Ideal) I.x (ix3 b t d) = (I.batch b).cumX t.val d :=
  cumsum3 (q := 4095) rfl _ _ _ _ (fun i => by pointwise [val_main_call3_call0_v0, val_main_call3_call0_cst]) (fun s => (I.batch b).x s d) b t d
    fun s => by simp only [Inputs.batch, row_val]

theorem ref_ctx (d : Fin 512) : val_main_v79 (F := Ideal) I.x (ix3 b t d) = (I.batch b).ctx t.val d := by
  have h : val_main_v78 (F := Ideal) (ix3 b t d) = (((t.val + 1 : ℕ) : ℝ) : EReal) := by
    pointwise [val_main_v78, val_main_v76, val_main_v75, val_main_v74, val_main_cst_6, val_main_v73]
    show (1 : EReal) + (((BitVec.ofNat 32 t.val).toInt : ℝ) : EReal) = _
    have e : (BitVec.ofNat 32 t.val).toInt = (t.val : ℤ) := by
      have ht := t.isLt
      rw [BitVec.toInt_eq_toNat_of_lt (by rw [BitVec.toNat_ofNat]; omega), BitVec.toNat_ofNat, Nat.mod_eq_of_lt (by omega)]
    rw [e, add_comm]
    push_cast
    rfl
  rw [val_main_v79_apply, ref_cumX, h]
  rfl

/-- The reference's gelu, by the complementary error function. -/
theorem gelu_ref (z : EReal) : cHalf * z * Ideal.erfc (-z * cRoot) = gelu1 z := by
  rw [gelu1, neg_mul, Ideal.erfc_neg, one_real]

theorem ref_store1 (d : Fin 512) : val_main_v84 (F := Ideal) I.x I.ws1 I.bs1 (ix3 b t d) = (I.batch b).store1 t.val d := by
  pointwise [val_main_v84, val_main_v83, val_main_v82, val_main_v81, val_main_v80]
  simp only [ref_ctx]
  simp only [Arrays.store1, lin_beside, Inputs.batch, row_val]

theorem ref_sp (p : Fin 128) : val_main_v98 (F := Ideal) I.x I.ws1 I.bs1 I.ws2 I.bs2 (ix3 b t p) = (I.batch b).sp t.val p := by
  have h : ∀ k : Fin 512, val_main_v91 (F := Ideal) I.x I.ws1 I.bs1 (ix3 b t k) = gelu1 ((I.batch b).store1 t.val k) := fun k => by
    pointwise [val_main_v91, val_main_v90, val_main_v89, val_main_v88, val_main_cst_8, val_main_v87, val_main_v86, val_main_v85, val_main_cst_7]
    rw [ref_store1]
    exact gelu_ref _
  pointwise [val_main_v98, val_main_v97, val_main_cst_9, val_main_v96, val_main_v95, val_main_v94, val_main_v93, val_main_v92]
  simp only [h]
  rfl

theorem ref_gv (v : Fin 8) : val_main_v100 (F := Ideal) I.x I.wve I.bve I.wg I.bg (ix3 b t v) = (I.batch b).gv t.val v := by
  pointwise [val_main_v100, val_main_v99, val_main_v62, val_main_v61, val_main_v60, val_main_v59]
  rw [ref_gate]
  simp only [Arrays.gv, lin, Inputs.batch, row_val]

theorem ref_memC (p : Fin 128) (v : Fin 8) :
    val_main_v113 (F := Ideal) I.x I.wve I.bve I.ws1 I.bs1 I.ws2 I.bs2 I.wg I.bg (ix4 b t p v) = (I.batch b).memC t.val p v :=
  cumsum4 (q := 4095) rfl _ _ _ _ (fun i => by pointwise [val_main_call4_call0_v0, val_main_call4_call0_cst])
    (fun s => Ideal.cos ((I.batch b).sp s p) * (I.batch b).gv s v) b t p v fun s => by
      pointwise [val_main_v106, val_main_v105, val_main_v104, val_main_v103, val_main_v102, val_main_v101]
      rw [ref_sp, ref_gv]

theorem ref_memS (p : Fin 128) (v : Fin 8) :
    val_main_v114 (F := Ideal) I.x I.wve I.bve I.ws1 I.bs1 I.ws2 I.bs2 I.wg I.bg (ix4 b t p v) = (I.batch b).memS t.val p v :=
  cumsum4 (q := 4095) rfl _ _ _ _ (fun i => by pointwise [val_main_call5_call0_v0, val_main_call5_call0_cst])
    (fun s => Ideal.sin ((I.batch b).sp s p) * (I.batch b).gv s v) b t p v fun s => by
      pointwise [val_main_v112, val_main_v111, val_main_v110, val_main_v109, val_main_v108, val_main_v107]
      rw [ref_sp, ref_gv]

theorem ref_inv : val_main_v120 (F := Ideal) I.x I.wg I.bg (ix4 b t 0 0) = (I.batch b).inv t.val := by
  pointwise [val_main_v120, val_main_v119, val_main_cst_11, val_main_v118, val_main_v117, val_main_v116, val_main_call7_v1, val_main_call7_v0,
    val_main_cst_10]
  rw [ref_cumG, Arrays.inv, one_real]
  exact congrArg (fun e => Ideal.div 1 (Ideal.sqrt (max e ((I.batch b).cumG t.val)))) one_real

theorem ref_kvRet (v : Fin 8) :
    val_main_v136 (F := Ideal) I.x I.wke I.bke I.wve I.bve I.ws1 I.bs1 I.ws2 I.bs2 I.wg I.bg (ix3 b t v) = (I.batch b).kvRet t.val v := by
  have h : ∀ p : Fin 128, val_main_v133 (F := Ideal) I.x I.wke I.bke I.wve I.bve I.ws1 I.bs1 I.ws2 I.bs2 I.wg I.bg (ix4 b t p v)
      = Ideal.cos ((I.batch b).qp t.val p) * ((I.batch b).memC t.val p v * (I.batch b).inv t.val)
        + Ideal.sin ((I.batch b).qp t.val p) * ((I.batch b).memS t.val p v * (I.batch b).inv t.val) := fun p => by
    pointwise [val_main_v133, val_main_v132, val_main_v131, val_main_v130, val_main_v129, val_main_v128, val_main_v127, val_main_v126,
      val_main_v125, val_main_v124, val_main_v123, val_main_v122, val_main_v121]
    rw [ref_memC, ref_memS, ref_inv, ref_qp]
  pointwise [val_main_v136, val_main_v135, val_main_cst_13, val_main_v134, val_main_cst_12]
  simp only [h]
  rfl

theorem ref_kvOut (d : Fin 512) :
    val_main_v140 (F := Ideal) I.x I.wke I.bke I.wve I.bve I.ws1 I.bs1 I.ws2 I.bs2 I.wg I.bg I.wkv I.bkv (ix3 b t d)
      = (I.batch b).kvOut t.val d := by
  pointwise [val_main_v140, val_main_v139, val_main_v138, val_main_v137]
  simp only [ref_kvRet]
  rfl

end Cert.Phasor

end
-- ==== Proof.Value.RefOut.lean ====
/-
  The reference's lines against the model, ended: the layer norm, the mixing layers and the result.
-/
module

public import proofs.«01_k».proof.Proof.Value.RefKv

@[expose] public section

noncomputable section

namespace Cert.Phasor

open Idealize.ShloMosaic Cert.ReferenceIdeal Cert.ReferenceIdeal.Read

variable (I : Inputs) (b : Fin 4) (t : Fin 4096)

theorem ref_comb (k : Fin 1024) :
    val_main_v141 (F := Ideal) I.x I.phi I.ms I.wv I.bv I.wo I.bo I.wm I.bm I.wq I.bq I.wke I.bke I.wve I.bve I.ws1 I.bs1 I.ws2 I.bs2 I.wg I.bg I.wkv I.bkv (ix3 b t k) = (I.batch b).comb t.val k := by
  pointwise [val_main_v141]
  simp only [ref_posOut, ref_kvOut]
  rfl

theorem ref_mu : val_main_v145 (F := Ideal) I.x I.phi I.ms I.wv I.bv I.wo I.bo I.wm I.bm I.wq I.bq I.wke I.bke I.wve I.bve I.ws1 I.bs1 I.ws2 I.bs2 I.wg I.bg I.wkv I.bkv (ix3 b t 0) = (I.batch b).mu t.val := by
  pointwise [val_main_v145, val_main_v144, val_main_cst_15, val_main_v143, val_main_v142, val_main_cst_14]
  simp only [ref_comb]
  rfl

/-- The number of columns less the zero correction is the number of columns, and positive. -/
theorem ref_count (i : S_.Idx) : val_main_call8_v8 (F := Ideal) i = cWidth := by
  pointwise [val_main_call8_v8, val_main_call8_cst_1, val_main_call8_v7, val_main_c]
  show cWidth - (((0#32 : BitVec 32).toInt : ℝ) : EReal) = cWidth
  simp

theorem ref_var : val_main_v146 (F := Ideal) I.x I.phi I.ms I.wv I.bv I.wo I.bo I.wm I.bm I.wq I.bq I.wke I.bke I.wve I.bve I.ws1 I.bs1 I.ws2 I.bs2 I.wg I.bg I.wkv I.bkv (ix3 b t 0) = (I.batch b).var t.val := by
  pointwise [val_main_v146, val_main_call8_v13, val_main_call8_v12, val_main_call8_v11, val_main_call8_v10, val_main_call8_v9,
    val_main_call8_v6, val_main_call8_v5, val_main_call8_v4, val_main_call8_v3, val_main_call8_v2, val_main_call8_v1, val_main_call8_v0,
    val_main_call8_cst, val_main_call8_cst_0, val_main_call8_cst_2, val_main_call8_cst_3]
  simp only [ref_comb, ref_count]
  rw [if_pos (by rw [width_real]; exact_mod_cast (by norm_num : (0 : ℝ) < 1024))]
  rfl

theorem ref_normed (k : Fin 1024) :
    val_main_v159 (F := Ideal) I.x I.phi I.ms I.wv I.bv I.wo I.bo I.wm I.bm I.wq I.bq I.wke I.bke I.wve I.bve I.ws1 I.bs1 I.ws2 I.bs2 I.wg I.bg I.wkv I.bkv I.lng I.lnb (ix3 b t k) = (I.batch b).normed t.val k := by
  pointwise [val_main_v159, val_main_v158, val_main_v157, val_main_v156, val_main_v155, val_main_v154, val_main_v153, val_main_v152,
    val_main_v151, val_main_v150, val_main_v149, val_main_cst_16, val_main_v148, val_main_v147]
  rw [ref_comb, ref_mu, ref_var]
  rfl

theorem ref_mix1 (k : Fin 1024) :
    val_main_v163 (F := Ideal) I.x I.phi I.ms I.wv I.bv I.wo I.bo I.wm I.bm I.wq I.bq I.wke I.bke I.wve I.bve I.ws1 I.bs1 I.ws2 I.bs2 I.wg I.bg I.wkv I.bkv I.lng I.lnb I.wt1 I.bt1 (ix3 b t k) = (I.batch b).mix1 t.val k := by
  pointwise [val_main_v163, val_main_v162, val_main_v161, val_main_v160]
  simp only [ref_normed]
  rfl

/-- The reference's result is the model's. -/
theorem ref_out (d : Fin 512) :
    val_main_v175 (F := Ideal) I.x I.phi I.ms I.wv I.bv I.wo I.bo I.wm I.bm I.wq I.bq I.wke I.bke I.wve I.bve I.ws1 I.bs1 I.ws2 I.bs2 I.wg I.bg I.wkv I.bkv I.lng I.lnb I.wt1 I.bt1 I.wt2 I.bt2 (ix3 b t d) = (I.batch b).out t.val d := by
  have h : ∀ k : Fin 1024, val_main_v170 (F := Ideal) I.x I.phi I.ms I.wv I.bv I.wo I.bo I.wm I.bm I.wq I.bq I.wke I.bke I.wve I.bve I.ws1 I.bs1 I.ws2 I.bs2 I.wg I.bg I.wkv I.bkv I.lng I.lnb I.wt1 I.bt1 (ix3 b t k) = gelu1 ((I.batch b).mix1 t.val k) := fun k => by
    pointwise [val_main_v170, val_main_v169, val_main_v168, val_main_v167, val_main_cst_18, val_main_v166, val_main_v165, val_main_v164,
      val_main_cst_17]
    rw [ref_mix1]
    exact gelu_ref _
  pointwise [val_main_v175, val_main_v174, val_main_v173, val_main_v172, val_main_v171]
  simp only [h]
  simp only [Arrays.out, lin, Inputs.batch, row_val]

end Cert.Phasor

end
-- ==== Proof.Value.Algebraic.lean ====
/-
  The two programs over the extended reals leave the same result.
-/
module

public import proofs.«01_k».proof.Proof.Value.Precondition
public import proofs.«01_k».proof.Proof.Value.RefOut
public import proofs.«01_k».proof.Proof.Kern.Unchanged
public import proofs.«01_k».proof.Proof.Gen.ReferenceIdeal.Run

@[expose] public section

set_option maxRecDepth 16384

noncomputable section

namespace Cert.Phasor

open Cert.KernelIdeal Cert.KernelIdeal.Gen
open Idealize.ShloMosaic Idealize.ShloMosaic.TcCoe Idealize.ShloMosaic.Tactic

variable (m : (ℓ : Loc nD τ sig) → Buf (Elt Ideal) ℓ)

/-- The result of both programs. -/
def answer (c : Dev nD) : FVec Ideal S4x4096x512 .f32 := fun i => ((given m c).batch (i 0)).out (i 1).val (i 2)

/-- The reference's result over the kernel's arguments. -/
theorem ref_answer (c : Dev nD) {y : FVec Ideal S4x4096x512 .f32}
    (h : y = Cert.ReferenceIdeal.Read.val_main_v175 (F := Ideal) (given m c).x (given m c).phi (given m c).ms (given m c).wv (given m c).bv (given m c).wo (given m c).bo
      (given m c).wm (given m c).bm (given m c).wq (given m c).bq (given m c).wke (given m c).bke (given m c).wve (given m c).bve (given m c).ws1 (given m c).bs1 (given m c).ws2
      (given m c).bs2 (given m c).wg (given m c).bg (given m c).wkv (given m c).bkv (given m c).lng (given m c).lnb (given m c).wt1 (given m c).bt1 (given m c).wt2 (given m c).bt2) :
    y = answer m c := by
  subst h
  funext i
  have e : i = ix3 (i 0) (i 1) (i 2) := funext fun a => by
    match a with
    | ⟨0, _⟩ => rfl
    | ⟨1, _⟩ => rfl
    | ⟨2, _⟩ => rfl
  rw [e]
  exact ref_out (given m c) (i 0) (i 1) (i 2)

/-- The kernel and the reference, launched on the same arguments, end with the same result and leave their arguments unchanged. -/
theorem same_result : Cert.algebraic_KernelIdeal_ReferenceIdeal_pre_finite_inputs := by
  intro m ρ m' ρ' hpre hagree
  refine ⟨answer m, (θ_run defs _ _).mono (fun _ h c => ⟨(h.1 c _ (held_mem main_v23 (by decide))).trans
      (kernel_result m c (finite_given m hpre c)), args_unchanged m h.1 c⟩) (whole m ρ), ?_⟩
  refine (θ_run Cert.ReferenceIdeal.defs _ _).mono (fun _ h c => ⟨(h c).1.trans ?_, (h c).2⟩) (Cert.ReferenceIdeal.Value.run (F := Ideal) m' ρ')
  refine ref_answer m c ((Cert.ReferenceIdeal.Read.val_main_v175_eq (F := Ideal) _).trans ?_)
  obtain ⟨h0, h1, h2, h3, h4, h5, h6, h7, h8, h9, h10, h11, h12, h13, h14, h15, h16, h17, h18, h19, h20, h21, h22, h23, h24, h25, h26, h27, h28⟩ := hagree c
  exact congr (congr (congr (congr (congr (congr (congr (congr (congr (congr (congr (congr (congr (congr (congr (congr (congr (congr (congr (congr (congr
    (congr (congr (congr (congr (congr (congr (congr (congrArg Cert.ReferenceIdeal.Read.val_main_v175 h0) h1) h2) h3) h4) h5) h6) h7) h8) h9) h10) h11) h12)
    h13) h14) h15) h16) h17) h18) h19) h20) h21) h22) h23) h24) h25) h26) h27) h28

end Cert.Phasor

end
-- ==== Proof.lean ====
/-
  The claims: the frames of the three programs, the two named constants, and the equality of the results of the kernel and the reference
  over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_inputs
public import proofs.«01_k».proof.Proof.Gen.ReferenceIdeal.Run
public import proofs.«01_k».proof.Proof.Gen.ReferenceIdeal.Read
public import proofs.«01_k».proof.Proof.Kern.Frames
public import proofs.«01_k».proof.Proof.Kern.Words
public import proofs.«01_k».proof.Proof.Value.Algebraic

@[expose] public section

noncomputable section

namespace Cert.Proof

theorem claim : Cert.Claim :=
  ⟨Cert.Kernel.Gen.facts, Cert.KernelIdeal.Gen.facts, Cert.ReferenceIdeal.Gen.facts,
    Cert.Pre_finite_inputs.Gen.facts, Cert.Phasor.frame_words, Cert.Phasor.frame_ideal, fun m ρ _ => Cert.Phasor.frame_ideal m ρ trivial,
    Cert.Phasor.frame_reference, fun m ρ _ => Cert.Phasor.frame_reference m ρ trivial, Cert.Phasor.named_scales, Cert.Phasor.same_result⟩

end Cert.Proof

end
